-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16384x128 : Shape := ⟨2, ![16384, 128]⟩
abbrev S128x20 : Shape := ⟨2, ![128, 20]⟩
abbrev S20 : Shape := ⟨1, ![20]⟩
abbrev S20x30 : Shape := ⟨2, ![20, 30]⟩
abbrev S30 : Shape := ⟨1, ![30]⟩
abbrev S_ : Shape := ⟨0, ![]⟩

class Facts : Prop where
  bcast_S_S16384x128 : S_.BroadcastsInDim S16384x128 (![] : Fin 0 → Fin S16384x128.rank)
  bcast_S_S128x20 : S_.BroadcastsInDim S128x20 (![] : Fin 0 → Fin S128x20.rank)
  bcast_S_S20 : S_.BroadcastsInDim S20 (![] : Fin 0 → Fin S20.rank)
  bcast_S_S20x30 : S_.BroadcastsInDim S20x30 (![] : Fin 0 → Fin S20x30.rank)
  bcast_S_S30 : S_.BroadcastsInDim S30 (![] : Fin 0 → Fin S30.rank)

variable [Facts]

def fn_part1 {F : FTy → Type} [FloatOps F] (main_arg6 : IVec S30 32) (main_arg7 : IVec S30 32) (main_v2 : IVec S16384x128 1) (main_v5 : IVec S128x20 1) (main_v8 : IVec S20 1) (main_v11 : IVec S20x30 1) (main_v14 : IVec S30 1) (main_v17 : IVec S30 1) : IVec S16384x128 1 × IVec S128x20 1 × IVec S20 1 × IVec S20x30 1 × IVec S30 1 × IVec S30 1 × IVec S30 1 × IVec S30 1 × IVec S30 1 :=
  let main_c : IVec S_ 32 := constantI S_ 32 0#32
  let main_v18 : IVec S30 32 := broadcastInDim S30 ![] bcast_S_S30 main_c
  let main_v19 : IVec S30 1 := cmpi .sge main_arg6 main_v18
  let main_c_5 : IVec S_ 32 := constantI S_ 32 0#32
  let main_v20 : IVec S30 32 := broadcastInDim S30 ![] bcast_S_S30 main_c_5
  let main_v21 : IVec S30 1 := cmpi .sge main_arg7 main_v20
  let main_c_6 : IVec S_ 32 := constantI S_ 32 30#32
  let main_v22 : IVec S30 32 := broadcastInDim S30 ![] bcast_S_S30 main_c_6
  let main_v23 : IVec S30 1 := cmpi .slt main_arg7 main_v22
  (main_v2, main_v5, main_v8, main_v11, main_v14, main_v17, main_v19, main_v21, main_v23)

def fn {F : FTy → Type} [FloatOps F] (main_arg0 : FVec F S16384x128 .f32) (main_arg1 : FVec F S128x20 .f32) (main_arg2 : FVec F S20 .f32) (main_arg3 : FVec F S20x30 .f32) (main_arg4 : FVec F S30 .f32) (main_arg5 : FVec F S30 .f32) (main_arg6 : IVec S30 32) (main_arg7 : IVec S30 32) : IVec S16384x128 1 × IVec S128x20 1 × IVec S20 1 × IVec S20x30 1 × IVec S30 1 × IVec S30 1 × IVec S30 1 × IVec S30 1 × IVec S30 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S128x20 .f32 := Host.absf main_arg1
  let main_cst_0 : FVec F S_ .f32 := constant S_ .f32 0x7F800000#32
  let main_v4 : FVec F S128x20 .f32 := broadcastInDim S128x20 ![] bcast_S_S128x20 main_cst_0
  let main_v5 : IVec S128x20 1 := cmpf .olt main_v3 main_v4
  let main_v6 : FVec F S20 .f32 := Host.absf main_arg2
  let main_cst_1 : FVec F S_ .f32 := constant S_ .f32 0x7F800000#32
  let main_v7 : FVec F S20 .f32 := broadcastInDim S20 ![] bcast_S_S20 main_cst_1
  let main_v8 : IVec S20 1 := cmpf .olt main_v6 main_v7
  let main_v9 : FVec F S20x30 .f32 := Host.absf main_arg3
  let main_cst_2 : FVec F S_ .f32 := constant S_ .f32 0x7F800000#32
  let main_v10 : FVec F S20x30 .f32 := broadcastInDim S20x30 ![] bcast_S_S20x30 main_cst_2
  let main_v11 : IVec S20x30 1 := cmpf .olt main_v9 main_v10
  let main_v12 : FVec F S30 .f32 := Host.absf main_arg4
  let main_cst_3 : FVec F S_ .f32 := constant S_ .f32 0x7F800000#32
  let main_v13 : FVec F S30 .f32 := broadcastInDim S30 ![] bcast_S_S30 main_cst_3
  let main_v14 : IVec S30 1 := cmpf .olt main_v12 main_v13
  let main_v15 : FVec F S30 .f32 := Host.absf main_arg5
  let main_cst_4 : FVec F S_ .f32 := constant S_ .f32 0x7F800000#32
  let main_v16 : FVec F S30 .f32 := broadcastInDim S30 ![] bcast_S_S30 main_cst_4
  let main_v17 : IVec S30 1 := cmpf .olt main_v15 main_v16
  fn_part1 (F := F) main_arg6 main_arg7 main_v2 main_v5 main_v8 main_v11 main_v14 main_v17
-- ==== Kernel.lean ====
abbrev S16384x128 : Shape := ⟨2, ![16384, 128]⟩
abbrev S128x20 : Shape := ⟨2, ![128, 20]⟩
abbrev S20 : Shape := ⟨1, ![20]⟩
abbrev S20x30 : Shape := ⟨2, ![20, 30]⟩
abbrev S30 : Shape := ⟨1, ![30]⟩
abbrev S1x20 : Shape := ⟨2, ![1, 20]⟩
abbrev S1x30 : Shape := ⟨2, ![1, 30]⟩
abbrev S30x16384 : Shape := ⟨2, ![30, 16384]⟩
abbrev S16384x30 : Shape := ⟨2, ![16384, 30]⟩
abbrev S8x2048x128 : Shape := ⟨3, ![8, 2048, 128]⟩
abbrev S8x30x2048 : Shape := ⟨3, ![8, 30, 2048]⟩
abbrev S8 : Shape := ⟨1, ![8]⟩
abbrev S1 : Shape := ⟨1, ![1]⟩
abbrev S_ : Shape := ⟨0, ![]⟩
abbrev S1x2048x128 : Shape := ⟨3, ![1, 2048, 128]⟩
abbrev S2048x128 : Shape := ⟨2, ![2048, 128]⟩
abbrev S30x30 : Shape := ⟨2, ![30, 30]⟩
abbrev S128x30 : Shape := ⟨2, ![128, 30]⟩
abbrev S30x1 : Shape := ⟨2, ![30, 1]⟩
abbrev S30x2048 : Shape := ⟨2, ![30, 2048]⟩
abbrev S1x30x2048 : Shape := ⟨3, ![1, 30, 2048]⟩

abbrev nBuf : Space → Nat
  | .hbm => 15
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S128x20, .f32⟩
  | .hbm, ⟨2, _⟩ => ⟨S20, .f32⟩
  | .hbm, ⟨3, _⟩ => ⟨S20x30, .f32⟩
  | .hbm, ⟨4, _⟩ => ⟨S30, .f32⟩
  | .hbm, ⟨5, _⟩ => ⟨S30, .f32⟩
  | .hbm, ⟨6, _⟩ => ⟨S30, .i32⟩
  | .hbm, ⟨7, _⟩ => ⟨S30, .i32⟩
  | .hbm, ⟨8, _⟩ => ⟨S1x20, .f32⟩
  | .hbm, ⟨9, _⟩ => ⟨S1x30, .f32⟩
  | .hbm, ⟨10, _⟩ => ⟨S1x30, .f32⟩
  | .hbm, ⟨11, _⟩ => ⟨S1x30, .i32⟩
  | .hbm, ⟨12, _⟩ => ⟨S1x30, .i32⟩
  | .hbm, ⟨13, _⟩ => ⟨S30x16384, .f32⟩
  | .hbm, ⟨14, _⟩ => ⟨S16384x30, .f32⟩
  | .local _ .vmem, ⟨0, _⟩ => ⟨S128x20, .f32⟩
  | .local _ .vmem, ⟨1, _⟩ => ⟨S1x20, .f32⟩
  | .local _ .vmem, ⟨2, _⟩ => ⟨S20x30, .f32⟩
  | .local _ .vmem, ⟨3, _⟩ => ⟨S1x30, .f32⟩
  | .local _ .vmem, ⟨4, _⟩ => ⟨S1x30, .f32⟩
  | .local _ .vmem, ⟨5, _⟩ => ⟨S1x30, .i32⟩
  | .local _ .vmem, ⟨6, _⟩ => ⟨S1x30, .i32⟩
  | .local _ .vmem, ⟨7, _⟩ => ⟨S8x2048x128, .f32⟩
  | .local _ .vmem, ⟨8, _⟩ => ⟨S8x30x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x30 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x30 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16384x128 : Shape := ⟨2, ![16384, 128]⟩
abbrev S128x20 : Shape := ⟨2, ![128, 20]⟩
abbrev S20 : Shape := ⟨1, ![20]⟩
abbrev S20x30 : Shape := ⟨2, ![20, 30]⟩
abbrev S30 : Shape := ⟨1, ![30]⟩
abbrev S16384x20 : Shape := ⟨2, ![16384, 20]⟩
abbrev S1x20 : Shape := ⟨2, ![1, 20]⟩
abbrev S16384x30 : Shape := ⟨2, ![16384, 30]⟩
abbrev S1x30 : Shape := ⟨2, ![1, 30]⟩
abbrev S30x16384 : Shape := ⟨2, ![30, 16384]⟩
abbrev S30x1 : Shape := ⟨2, ![30, 1]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x20, .f32⟩
  | .hbm, ⟨2, _⟩ => ⟨S20, .f32⟩
  | .hbm, ⟨3, _⟩ => ⟨S20x30, .f32⟩
  | .hbm, ⟨4, _⟩ => ⟨S30, .f32⟩
  | .hbm, ⟨5, _⟩ => ⟨S30, .f32⟩
  | .hbm, ⟨6, _⟩ => ⟨S30, .i32⟩
  | .hbm, ⟨7, _⟩ => ⟨S30, .i32⟩
  | .hbm, ⟨8, _⟩ => ⟨S16384x20, .f32⟩
  | .hbm, ⟨9, _⟩ => ⟨S1x20, .f32⟩
  | .hbm, ⟨10, _⟩ => ⟨S16384x20, .f32⟩
  | .hbm, ⟨11, _⟩ => ⟨S16384x20, .f32⟩
  | .hbm, ⟨12, _⟩ => ⟨S16384x30, .f32⟩
  | .hbm, ⟨13, _⟩ => ⟨S1x30, .f32⟩
  | .hbm, ⟨14, _⟩ => ⟨S16384x30, .f32⟩
  | .hbm, ⟨15, _⟩ => ⟨S16384x30, .f32⟩
  | .hbm, ⟨16, _⟩ => ⟨S30x16384, .f32⟩
  | .hbm, ⟨17, _⟩ => ⟨S30x1, .f32⟩
  | .hbm, ⟨18, _⟩ => ⟨S_, .i32⟩
  | .hbm, ⟨19, _⟩ => ⟨S30, .i32⟩
  | .hbm, ⟨20, _⟩ => ⟨S30, .i1⟩
  | .hbm, ⟨21, _⟩ => ⟨S_, .i32⟩
  | .hbm, ⟨22, _⟩ => ⟨S30, .i32⟩
  | .hbm, ⟨23, _⟩ => ⟨S30, .i32⟩
  | .hbm, ⟨24, _⟩ => ⟨S30, .i32⟩
  | .hbm, ⟨25, _⟩ => ⟨S30x1, .i32⟩
  | .hbm, ⟨26, _⟩ => ⟨S30x16384, .f32⟩
  | .hbm, ⟨27, _⟩ => ⟨S30x16384, .f32⟩
  | .hbm, ⟨28, _⟩ => ⟨S30x16384, .f32⟩
  | .hbm, ⟨29, _⟩ => ⟨S_, .f32⟩
  | .hbm, ⟨30, _⟩ => ⟨S30x16384, .f32⟩
  | .hbm, ⟨31, _⟩ => ⟨S_, .i32⟩
  | .hbm, ⟨32, _⟩ => ⟨S30, .i32⟩
  | .hbm, ⟨33, _⟩ => ⟨S30, .i1⟩
  | .hbm, ⟨34, _⟩ => ⟨S_, .i32⟩
  | .hbm, ⟨35, _⟩ => ⟨S30, .i32⟩
  | .hbm, ⟨36, _⟩ => ⟨S30, .i32⟩
  | .hbm, ⟨37, _⟩ => ⟨S30, .i32⟩
  | .hbm, ⟨38, _⟩ => ⟨S30x1, .i32⟩
  | .hbm, ⟨39, _⟩ => ⟨S30x16384, .f32⟩
  | .hbm, ⟨40, _⟩ => ⟨S16384x30, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.KernelIdeal.Slots.lean ====
/-
  The two scratch buffers, slot by slot. Slot `k` of the input scratch holds rows `2048 k` to `2048 k + 2047` of the input, and
  slot `k` of the output scratch is copied to columns `2048 k` to `2048 k + 2047` of the result. Every statement is for a general
  slot number, so one proof serves the eight slots.
-/
module

public import proofs.«01_k».proof.Proof.Gen.KernelIdeal.Skeleton
public import Idealize.ShloMosaic.Lib.Writes
public import Idealize.ShloMosaic.Lib.Ring
public import Idealize.ShloMosaic.Lib.Pipeline.FrameBody
public import Idealize.ShloMosaic.Lib.Tactic
public import Idealize.ShloMosaic.Lib.ViewIndex
public import Idealize.ShloMosaic.Lib.Exec.Geometry
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The two scratch buffers, the input left in HBM and the result left in HBM, whole. -/
abbrev scX : Memref sig .tc .vmem S8x2048x128 .f32 := Memref.whole cc0_scratch0
abbrev scY : Memref sig .tc .vmem S8x30x2048 .f32 := Memref.whole cc0_scratch1
abbrev hbX : Memref sig .tc .hbm S16384x128 .f32 := Memref.whole main_arg0
abbrev hbO : Memref sig .tc .hbm S30x16384 .f32 := Memref.whole main_call0_v5

/-- Slot `k` lies in the scratch, and its rows in the input. -/
theorem inbX (k : ℕ) (hk : k < 8) : ∀ a : Fin 3, (![k, 0, 0] : Fin 3 → ℕ) a + S1x2048x128.size a ≤ S8x2048x128.size a := fun a =>
  match a with
  | ⟨0, _⟩ => by show k + 1 ≤ 8; omega
  | ⟨1, _⟩ => by show 0 + 2048 ≤ 2048; omega
  | ⟨2, _⟩ => by show 0 + 128 ≤ 128; omega
theorem inbH (k : ℕ) (hk : k < 8) : ∀ a : Fin 2, (![k * 2048, 0] : Fin 2 → ℕ) a + S2048x128.size a ≤ S16384x128.size a := fun a =>
  match a with
  | ⟨0, _⟩ => by show k * 2048 + 2048 ≤ 16384; omega
  | ⟨1, _⟩ => by show 0 + 128 ≤ 128; omega

/-- Slot `k`'s rows of the input, as the block the body loads. -/
def xslot (X : S16384x128.Idx → Elt F .f32) (k : ℕ) (hk : k < 8) : Vec F S1x2048x128 .f32 := fun i =>
  X (ix2 ⟨k * 2048 + (i 1).val, by have : (i 1).val < 2048 := (i 1).isLt; omega⟩ (i 2))

/-- Equal slot numbers name the same rows. -/
theorem xslot_congr (X : S16384x128.Idx → Elt F .f32) {k k' : ℕ} (e : k = k') (hk : k < 8) (hk' : k' < 8) :
    xslot X k hk = xslot X k' hk' := by subst e; rfl

/-- The result the body leaves in HBM, from the folded weights `wf`, the folded bias `bv` and the input `X`: the column's slot is
    its number over 2048, its place in the slot the remainder. -/
def outV (wf : FVec F S128x30 .f32) (bv : FVec F S30x1 .f32) (X : S16384x128.Idx → Elt F .f32) : S30x16384.Idx → Elt F .f32 := fun i =>
  k0_pay7 wf bv (xslot X ((i 1).val / 2048) (by have : (i 1).val < 16384 := (i 1).isLt; omega))
    (ix3 0 (i 0) ⟨(i 1).val % 2048, Nat.mod_lt _ (by decide)⟩)

/-- Where a squeezed slot of the input scratch places an index. -/
theorem sq_x (h : S2048x128.numel = S1x2048x128.numel) (a : Fin 2048) (b : Fin 128) :
    (Shape.reshapeEquiv h (ix2 a b) : S1x2048x128.Idx) = ix3 0 a b := by
  refine (Shape.reshapeEquiv_cons_one (d := ![2048, 128]) h (ix2 a b)).trans (funext fun d => ?_)
  match d with | ⟨0, _⟩ => rfl | ⟨1, _⟩ => rfl | ⟨2, _⟩ => rfl

/-- Where a squeezed slot of the output scratch places an index. -/
theorem sq_y (h : S30x2048.numel = S1x30x2048.numel) (a : Fin 30) (b : Fin 2048) :
    (Shape.reshapeEquiv h (ix2 a b) : S1x30x2048.Idx) = ix3 0 a b := by
  refine (Shape.reshapeEquiv_cons_one (d := ![30, 2048]) h (ix2 a b)).trans (funext fun d => ?_)
  match d with | ⟨0, _⟩ => rfl | ⟨1, _⟩ => rfl | ⟨2, _⟩ => rfl

variable {c : Thread nD τ}

/-- What a copy into slot `k` leaves in that slot. -/
theorem slot_hit (k : ℕ) (inb) (h) (q) (f : scX.view.ty.Contents (Elt F)) (w : S2048x128.Idx → Elt F .f32) (y : S8x2048x128.Idx)
    (hy : (y 0).val = k) :
    View.read (Elt F) scX.view (View.write (Elt F) ((scX.slice (Rect.unit ![k, 0, 0] S1x2048x128.size inb) h).squeeze S2048x128 q).view f w Finset.univ) y
      = w (ix2 (y 1) (y 2)) := by
  have e : y = (Rect.unit (s := S8x2048x128) ![k, 0, 0] S1x2048x128.size inb).emb (Shape.reshapeEquiv q.numel_eq (ix2 (y 1) (y 2))) := by
    refine (Rect.emb_eq_of_coords _ _ _ fun d => ?_).symm
    have hr := congrFun (sq_x q.numel_eq (y 1) (y 2)) d
    refine Eq.trans ?_ (congrArg (fun z : Fin (S1x2048x128.size d) => (![k, 0, 0] : Fin 3 → ℕ) d + 1 * z.val) hr.symm)
    match d with
    | ⟨0, _⟩ => show (y 0).val = k + 1 * 0; omega
    | ⟨1, _⟩ => show (y 1).val = 0 + 1 * (y 1).val; omega
    | ⟨2, _⟩ => show (y 2).val = 0 + 1 * (y 2).val; omega
  refine (congrArg _ e).trans ?_
  exact View.read_write_reshape (scX.view.slice (Rect.unit ![k, 0, 0] S1x2048x128.size inb)) q.numel_eq f w (ix2 (y 1) (y 2))

/-- A copy into slot `k` leaves the other slots alone. -/
theorem slot_miss (k : ℕ) (inb) (h) (q) (f : scX.view.ty.Contents (Elt F)) (w : S2048x128.Idx → Elt F .f32) (y : S8x2048x128.Idx)
    (hy : (y 0).val ≠ k) :
    View.read (Elt F) scX.view (View.write (Elt F) ((scX.slice (Rect.unit ![k, 0, 0] S1x2048x128.size inb) h).squeeze S2048x128 q).view f w Finset.univ) y
      = View.read (Elt F) scX.view f y := by
  refine View.read_congr_at y (View.write_of_not_mem (v := ((scX.slice (Rect.unit ![k, 0, 0] S1x2048x128.size inb) h).squeeze S2048x128 q).view)
    f w Finset.univ fun hm => ?_)
  have hm' := View.set_reshape_subset (scX.view.slice (Rect.unit ![k, 0, 0] S1x2048x128.size inb)) q.numel_eq
    (subset_of_eq (View.set_slice _ _)) hm
  have hy' := (Finset.mem_map' scX.view.emb).mp hm'
  refine Rect.not_mem_set_of_axis _ y 0 k 1 rfl rfl rfl ?_ hy'
  omega

/-- The input scratch holds the input's rows in its slots below `n`. -/
def Filled (fx : hbX.view.ty.Contents (Elt F)) (n : ℕ) (f : scX.view.ty.Contents (Elt F)) : Prop :=
  ∀ y : S8x2048x128.Idx, (y 0).val < n → View.read (Elt F) scX.view f y
    = View.read (Elt F) hbX.view fx (ix2 ⟨(y 0).val * 2048 + (y 1).val, by
        have h0 : (y 0).val < 8 := (y 0).isLt
        have h1 : (y 1).val < 2048 := (y 1).isLt
        omega⟩ (y 2))

/-- Nothing is asked of an empty range of slots. -/
theorem filled_zero (fx : hbX.view.ty.Contents (Elt F)) (f : scX.view.ty.Contents (Elt F)) : Filled fx 0 f :=
  fun _ h => absurd h (Nat.not_lt_zero _)

/-- Copying rows `2048 k` on into slot `k` extends the filled range by that slot. -/
theorem filled_succ (fx : hbX.view.ty.Contents (Elt F)) (n k o : ℕ) (hn : n = k + 1) (ho : o = k * 2048) (inb) (h) (q) (inb') (h')
    (f : scX.view.ty.Contents (Elt F)) (hf : Filled fx k f) :
    Filled fx n (View.write (Elt F) ((scX.slice (Rect.unit ![k, 0, 0] S1x2048x128.size inb) h).squeeze S2048x128 q).view f
      (ReadAs.same.apply (View.read (Elt F) (hbX.slice (Rect.unit ![o, 0] S2048x128.size inb') h').view fx)) Finset.univ) := by
  intro y hy
  by_cases hk : (y 0).val = k
  · refine (slot_hit k inb h q f _ y hk).trans (congrArg (View.read (Elt F) hbX.view fx) ?_)
    refine Rect.emb_eq_of_coords _ _ _ fun d => ?_
    match d with
    | ⟨0, _⟩ => show (y 0).val * 2048 + (y 1).val = o + 1 * (y 1).val; omega
    | ⟨1, _⟩ => show (y 2).val = 0 + 1 * (y 2).val; omega
  · exact (slot_miss k inb h q f _ y hk).trans (hf y (by omega))

/-- The input scratch after the copy of slot `k`'s rows into slot `k`. -/
abbrev inSlot (fx : hbX.view.ty.Contents (Elt F)) (k : ℕ) (hk : k < 8) (f : scX.view.ty.Contents (Elt F)) : scX.view.ty.Contents (Elt F) :=
  View.write (Elt F) ((scX.slice (Rect.unit ![k, 0, 0] S1x2048x128.size (inbX k hk)) fun _ => rfl).squeeze S2048x128 squeezes_S1x2048x128_S2048x128).view f
    (ReadAs.same.apply (View.read (Elt F) (hbX.slice (Rect.unit ![k * 2048, 0] S2048x128.size (inbH k hk)) fun _ => rfl).view fx)) Finset.univ

/-- The input scratch after all eight copies. -/
abbrev inAll (fx : hbX.view.ty.Contents (Elt F)) (fX : scX.view.ty.Contents (Elt F)) : scX.view.ty.Contents (Elt F) :=
  inSlot fx 7 (by decide) (inSlot fx 6 (by decide) (inSlot fx 5 (by decide) (inSlot fx 4 (by decide) (inSlot fx 3 (by decide) (inSlot fx 2 (by decide) (inSlot fx 1 (by decide) (inSlot fx 0 (by decide) (fX))))))))

/-- All eight slots are filled. -/
theorem filled_all (fx : hbX.view.ty.Contents (Elt F)) (fX : scX.view.ty.Contents (Elt F)) : Filled fx 8 (inAll fx fX) :=
  have st (k : ℕ) (hk : k < 8) (f) (hf : Filled fx k f) : Filled fx (k + 1) (inSlot fx k hk f) := filled_succ fx (k + 1) k _ rfl rfl _ _ _ _ _ f hf
  st 7 (by decide) _ (st 6 (by decide) _ (st 5 (by decide) _ (st 4 (by decide) _ (st 3 (by decide) _ (st 2 (by decide) _ (st 1 (by decide) _ (st 0 (by decide) _ (filled_zero fx fX))))))))

/-- A load of slot `k` of a filled scratch is that slot's rows of the input. -/
theorem load_slot (fx : hbX.view.ty.Contents (Elt F)) (k : ℕ) (hk : k < 8) (inb) (f : scX.view.ty.Contents (Elt F)) (hf : Filled fx 8 f) :
    View.readAt (Elt F) scX.view (Rect.unit (s := S8x2048x128) ![k, 0, 0] S1x2048x128.size inb).toLoadRect f
      = xslot (View.read (Elt F) hbX.view fx) k hk := by
  funext x
  have h0 : (x 0).val < 1 := (x 0).isLt
  have h1 : (x 1).val < 2048 := (x 1).isLt
  have e : (Rect.unit (s := S8x2048x128) ![k, 0, 0] S1x2048x128.size inb).emb x = ix3 ⟨k, hk⟩ ⟨(x 1).val, h1⟩ (x 2) := by
    refine Rect.emb_eq_of_coords _ _ _ fun d => ?_
    match d with
    | ⟨0, _⟩ => show k = k + 1 * (x 0).val; omega
    | ⟨1, _⟩ => show (x 1).val = 0 + 1 * (x 1).val; omega
    | ⟨2, _⟩ => show (x 2).val = 0 + 1 * (x 2).val; omega
  refine (congrArg (View.read (Elt F) scX.view f) e).trans ?_
  exact hf _ hk

/-- The piece of the result copied out of slot `k` right after the body stored slot `k`: its columns of `outV`. -/
theorem piece_eq (wf : FVec F S128x30 .f32) (bv : FVec F S30x1 .f32) (X : S16384x128.Idx → Elt F .f32) (k o : ℕ) (hk : k < 8)
    (ho : o = k * 2048) (inb) (h) (q) (inb') (fY : scY.view.ty.Contents (Elt F)) (L : List (View.Piece (Elt F) S8x30x2048 .f32))
    (x : S30x2048.Idx) :
    (ReadAs.same.apply (View.read (Elt F) ((scY.slice (Rect.unit ![k, 0, 0] S1x30x2048.size inb) h).squeeze S30x2048 q).view
      (scY.view.writes (Elt F) fY (⟨Rect.unit ![k, 0, 0] S1x30x2048.size inb, k0_pay7 wf bv (xslot X k hk)⟩ :: L))) : S30x2048.Idx → Elt F .f32) x
      = outV wf bv X ((Rect.unit (s := S30x16384) ![0, o] S30x2048.size inb').emb x) := by
  have h0 : (x 0).val < 30 := (x 0).isLt
  have h1 : (x 1).val < 2048 := (x 1).isLt
  have hx : x = ix2 ⟨(x 0).val, h0⟩ ⟨(x 1).val, h1⟩ := eq_ix2 x
  have e : (Rect.unit (s := S30x16384) ![0, o] S30x2048.size inb').emb x = ix2 ⟨(x 0).val, h0⟩ ⟨k * 2048 + (x 1).val, by omega⟩ := by
    refine Rect.emb_eq_of_coords _ _ _ fun d => ?_
    match d with
    | ⟨0, _⟩ => show (x 0).val = 0 + 1 * (x 0).val; omega
    | ⟨1, _⟩ => show k * 2048 + (x 1).val = o + 1 * (x 1).val; omega
  rw [e]
  refine (View.read_writes_cons_emb scY.view fY (Rect.unit ![k, 0, 0] S1x30x2048.size inb) _ L (Shape.reshapeEquiv q.numel_eq x)).trans ?_
  have hs := (congrArg (Shape.reshapeEquiv q.numel_eq) hx).trans (sq_y q.numel_eq ⟨(x 0).val, h0⟩ ⟨(x 1).val, h1⟩)
  refine (congrArg (k0_pay7 wf bv (xslot X k hk)) hs).trans ?_
  have hd : (k * 2048 + (x 1).val) / 2048 = k := by omega
  have hm : (k * 2048 + (x 1).val) % 2048 = (x 1).val := by omega
  show _ = k0_pay7 wf bv (xslot X ((k * 2048 + (x 1).val) / 2048) _) (ix3 0 ⟨(x 0).val, h0⟩ ⟨(k * 2048 + (x 1).val) % 2048, _⟩)
  rw [xslot_congr X hd _ hk]
  exact congrArg (fun z : Fin 2048 => k0_pay7 wf bv (xslot X k hk) (ix3 0 ⟨(x 0).val, h0⟩ z)) (Fin.ext hm.symm)

/-- Eight pieces, each the result's own columns, leave the whole result. -/
theorem result_eq (fo : hbO.view.ty.Contents (Elt F)) (G : S30x16384.Idx → Elt F .f32) (w0 w1 w2 w3 w4 w5 w6 w7 : S30x2048.Idx → Elt F .f32)
    (h0 : ∀ x, w0 x = G ((Rect.unit (s := S30x16384) ![0, 0] S30x2048.size inb_S30x16384_S30x2048_0_0).emb x))
    (h1 : ∀ x, w1 x = G ((Rect.unit (s := S30x16384) ![0, 2048] S30x2048.size inb_S30x16384_S30x2048_0_2048).emb x))
    (h2 : ∀ x, w2 x = G ((Rect.unit (s := S30x16384) ![0, 4096] S30x2048.size inb_S30x16384_S30x2048_0_4096).emb x))
    (h3 : ∀ x, w3 x = G ((Rect.unit (s := S30x16384) ![0, 6144] S30x2048.size inb_S30x16384_S30x2048_0_6144).emb x))
    (h4 : ∀ x, w4 x = G ((Rect.unit (s := S30x16384) ![0, 8192] S30x2048.size inb_S30x16384_S30x2048_0_8192).emb x))
    (h5 : ∀ x, w5 x = G ((Rect.unit (s := S30x16384) ![0, 10240] S30x2048.size inb_S30x16384_S30x2048_0_10240).emb x))
    (h6 : ∀ x, w6 x = G ((Rect.unit (s := S30x16384) ![0, 12288] S30x2048.size inb_S30x16384_S30x2048_0_12288).emb x))
    (h7 : ∀ x, w7 x = G ((Rect.unit (s := S30x16384) ![0, 14336] S30x2048.size inb_S30x16384_S30x2048_0_14336).emb x)) :
    hbO.view.writes (Elt F) fo
      [⟨(Rect.unit (s := S30x16384) ![0, 14336] S30x2048.size inb_S30x16384_S30x2048_0_14336), w7⟩, ⟨(Rect.unit (s := S30x16384) ![0, 12288] S30x2048.size inb_S30x16384_S30x2048_0_12288), w6⟩, ⟨(Rect.unit (s := S30x16384) ![0, 10240] S30x2048.size inb_S30x16384_S30x2048_0_10240), w5⟩, ⟨(Rect.unit (s := S30x16384) ![0, 8192] S30x2048.size inb_S30x16384_S30x2048_0_8192), w4⟩, ⟨(Rect.unit (s := S30x16384) ![0, 6144] S30x2048.size inb_S30x16384_S30x2048_0_6144), w3⟩, ⟨(Rect.unit (s := S30x16384) ![0, 4096] S30x2048.size inb_S30x16384_S30x2048_0_4096), w2⟩, ⟨(Rect.unit (s := S30x16384) ![0, 2048] S30x2048.size inb_S30x16384_S30x2048_0_2048), w1⟩, ⟨(Rect.unit (s := S30x16384) ![0, 0] S30x2048.size inb_S30x16384_S30x2048_0_0), w0⟩]
      = (Memref.isWhole_whole main_call0_v5).unread G := by
  have hc := View.cover_of_tiledL
      ([⟨(Rect.unit (s := S30x16384) ![0, 14336] S30x2048.size inb_S30x16384_S30x2048_0_14336), w7⟩, ⟨(Rect.unit (s := S30x16384) ![0, 12288] S30x2048.size inb_S30x16384_S30x2048_0_12288), w6⟩, ⟨(Rect.unit (s := S30x16384) ![0, 10240] S30x2048.size inb_S30x16384_S30x2048_0_10240), w5⟩, ⟨(Rect.unit (s := S30x16384) ![0, 8192] S30x2048.size inb_S30x16384_S30x2048_0_8192), w4⟩, ⟨(Rect.unit (s := S30x16384) ![0, 6144] S30x2048.size inb_S30x16384_S30x2048_0_6144), w3⟩, ⟨(Rect.unit (s := S30x16384) ![0, 4096] S30x2048.size inb_S30x16384_S30x2048_0_4096), w2⟩, ⟨(Rect.unit (s := S30x16384) ![0, 2048] S30x2048.size inb_S30x16384_S30x2048_0_2048), w1⟩, ⟨(Rect.unit (s := S30x16384) ![0, 0] S30x2048.size inb_S30x16384_S30x2048_0_0), w0⟩] : List (View.Piece (Elt F) S30x16384 .f32)) S30x2048.size (by sl_kernel_rfl)
  exact (Memref.isWhole_whole main_call0_v5).eq_unread (funext fun y => View.read_writes_apply_of_pieces hbO.view fo G _
    (List.forall_mem_cons.mpr ⟨h7, List.forall_mem_cons.mpr ⟨h6, List.forall_mem_cons.mpr ⟨h5, List.forall_mem_cons.mpr ⟨h4, List.forall_mem_cons.mpr ⟨h3, List.forall_mem_cons.mpr ⟨h2, List.forall_mem_cons.mpr ⟨h1, List.forall_mem_cons.mpr ⟨h0, fun _ h => absurd h List.not_mem_nil⟩⟩⟩⟩⟩⟩⟩⟩) y (hc y))

end Cert.KernelIdeal.Hand

end
-- ==== Proof.KernelIdeal.Body.lean ====
/-
  What the kernel's one grid point computes. The run is stated over the seven staged inputs by their values, the two scratch
  buffers at any contents, the two HBM buffers and the sixteen copy counters at zero, and gives everything back with the result
  buffer holding the explicit function `outV` of the folded weights and bias.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Slots
public import Idealize.ShloMosaic.Lib.Pipeline.FrameBody
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's model: the pipeline library's user algebra beside the transfers' counters. -/
local notation "𝕄" => MT nD τ sig Unit (Elt F) ℕ (Pipeline.UD sig nD τ) ℕ

/-- A buffer's contents, and the assertion that it is held whole at them. -/
abbrev Cont (c : Dev nD) {sp : Space} {S : Shape} {e : EltTy} (M : Memref sig .tc sp S e) : Type := Buf (Elt F) (M.view.loc (c : Thread nD τ))
abbrev hpt (c : Dev nD) {sp : Space} {S : Shape} {e : EltTy} (M : Memref sig .tc sp S e) (f : Cont (F := F) c M) : sProp 𝕄 :=
  M.view.loc (c : Thread nD τ) ↦{fullShare} f

/-- The sixteen copy counters, all at zero. -/
abbrev sems0 (c : Dev nD) : sProp 𝕄 :=
  iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0)

/-- The weights and the bias with the sparse layer folded in, from the staged inputs. -/
abbrev wfV (x1 : Vec F S128x20 .f32) (x3 : Vec F S20x30 .f32) (x5 : Vec F S1x30 .f32) (x6 x7 : Vec F S1x30 .i32) : FVec F S128x30 .f32 :=
  k0_pay4 (k0_pay1 x6) (k0_pay2 x7 x5) (constant S30x30 .f32 0x00000000#32) x1 x3
abbrev bvV (x2 : Vec F S1x20 .f32) (x3 : Vec F S20x30 .f32) (x4 x5 : Vec F S1x30 .f32) (x6 x7 : Vec F S1x30 .i32) : FVec F S30x1 .f32 :=
  k0_pay5 (k0_pay1 x6) (k0_pay2 x7 x5) (constant S30x30 .f32 0x00000000#32) x2 x3 x4

/-- The contents the body leaves in the result buffer. -/
abbrev outB (c : Dev nD) (x1 : Vec F S128x20 .f32) (x2 : Vec F S1x20 .f32) (x3 : Vec F S20x30 .f32) (x4 : Vec F S1x30 .f32) (x5 : Vec F S1x30 .f32) (x6 x7 : Vec F S1x30 .i32) (fx : Cont (F := F) c hbX) : Cont (F := F) c hbO :=
  (Memref.isWhole_whole main_call0_v5).unread (outV (wfV x1 x3 x5 x6 x7) (bvV x2 x3 x4 x5 x6 x7) (View.read (Elt F) hbX.view fx))

/-- A load of a whole view is the view's contents. -/
theorem load_full {sp : Space} {S : Shape} {e : EltTy} (v : View sig .tc sp S e) (off : Fin S.rank → ℕ) (ho : ∀ a, off a = 0)
    (inb : ∀ a, off a + S.size a ≤ S.size a) (f : v.ty.Contents (Elt F)) :
    View.readAt (Elt F) v (Rect.unit (s := S) off S.size inb).toLoadRect f = View.read (Elt F) v f :=
  funext fun x => congrArg (View.read (Elt F) v f) (Rect.emb_eq_of_coords _ _ _ fun a => by
    show (x a).val = off a + 1 * (x a).val
    rw [ho a]; omega)

/-- Offsets that are all zero. -/
theorem off0 : ∀ a : Fin 2, (![0, 0] : Fin 2 → ℕ) a = 0 := by decide

/-- The first slot's stored value is the other slots' function of the folded weights and bias. -/
theorem pay6_eq (v46 v56 cst : FVec F S30x30 .f32) (w1 : Vec F S128x20 .f32) (w2 : Vec F S20x30 .f32) (b1 : Vec F S1x20 .f32) (w2' : Vec F S20x30 .f32)
    (b2 : Vec F S1x30 .f32) (x : Vec F S1x2048x128 .f32) :
    k0_pay6 v46 v56 cst w1 w2 b1 w2' b2 x = k0_pay7 (k0_pay4 v46 v56 cst w1 w2) (k0_pay5 v46 v56 cst b1 w2' b2) x := rfl

set_option maxHeartbeats 0 in
set_option sl_exec.dmaWindow true in
/-- The body's run: everything is given back, the result buffer at `outB`. -/
theorem run (c : Dev nD) (arg1 : Memref sig .tc .vmem S128x20 .f32) (harg1 : arg1.IsWhole) (arg2 : Memref sig .tc .vmem S1x20 .f32) (harg2 : arg2.IsWhole) (arg3 : Memref sig .tc .vmem S20x30 .f32) (harg3 : arg3.IsWhole) (arg4 : Memref sig .tc .vmem S1x30 .f32) (harg4 : arg4.IsWhole) (arg5 : Memref sig .tc .vmem S1x30 .f32) (harg5 : arg5.IsWhole) (arg6 : Memref sig .tc .vmem S1x30 .i32) (harg6 : arg6.IsWhole) (arg7 : Memref sig .tc .vmem S1x30 .i32) (harg7 : arg7.IsWhole)
    (x1 : Vec F S128x20 .f32) (x2 : Vec F S1x20 .f32) (x3 : Vec F S20x30 .f32) (x4 : Vec F S1x30 .f32) (x5 : Vec F S1x30 .f32) (x6 : Vec F S1x30 .i32) (x7 : Vec F S1x30 .i32) (fx : Cont (F := F) c hbX) (fo : Cont (F := F) c hbO) (W : Waits sig Unit) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
      ∗ (∃ f, hpt c scX f) ∗ (∃ f, hpt c scY f)
      ∗ sems0 (F := F) c ∗ hpt c hbX fx ∗ hpt c hbO fo
      ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ f, hpt c scX f) ∗ (∃ f, hpt c scY f)
        ∗ sems0 (F := F) c ∗ hpt c hbX fx ∗ hpt c hbO (outB c x1 x2 x3 x4 x5 x6 x7 fx)
        ∗ ∃ W', owes (c : Thread nD τ) 0 W') -∗ K ⟨⟩))
    ⊢ wp frame (wpE (defs₀ (F := F)) Variants.none c none) Set.univ
        (cc0__fused_kernel hbX (Memref.isWhole_whole _) arg1 harg1 arg2 harg2 arg3 harg3 arg4 harg4 arg5 harg5 arg6 harg6 arg7 harg7 hbO (Memref.isWhole_whole _) scX (Memref.isWhole_whole _) scY (Memref.isWhole_whole _) cc0_scratch2 cc0_scratch3) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fX, HX⟩, ⟨%fY, HY⟩,
    ⟨Hq7, Hq8, Hq9, Hq10, Hq11, Hq12, Hq13, Hq14, Hq15, Hq16, Hq17, Hq18, Hq19, Hq20, Hq21, Hq22⟩, Hx, Ho, HW, Hk⟩
  sl_exec
  sl_step
  subst hf1 hf2 hf3 hf4 hf5 hf6 hf7
  have hwf : run.sl.r_2 c arg1 arg3 arg5 arg6 arg7 f1 f3 f5 f6 f7 = wfV (View.read (Elt F) arg1.view f1) (View.read (Elt F) arg3.view f3)
      (View.read (Elt F) arg5.view f5) (View.read (Elt F) arg6.view f6) (View.read (Elt F) arg7.view f7) := by
    unfold run.sl.r_2 run.sl.r run.sl.r_1 run.sl.cst
    rw [load_full (S := S1x30) arg6.view _ off0 _ f6, load_full (S := S1x30) arg7.view _ off0 _ f7, load_full (S := S1x30) arg5.view _ off0 _ f5, load_full (S := S128x20) arg1.view _ off0 _ f1, load_full (S := S20x30) arg3.view _ off0 _ f3]
  have hbv : run.sl.r_3 c arg2 arg3 arg4 arg5 arg6 arg7 f2 f3 f4 f5 f6 f7 = bvV (View.read (Elt F) arg2.view f2) (View.read (Elt F) arg3.view f3)
      (View.read (Elt F) arg4.view f4) (View.read (Elt F) arg5.view f5) (View.read (Elt F) arg6.view f6) (View.read (Elt F) arg7.view f7) := by
    unfold run.sl.r_3 run.sl.r run.sl.r_1 run.sl.cst
    rw [load_full (S := S1x30) arg6.view _ off0 _ f6, load_full (S := S1x30) arg7.view _ off0 _ f7, load_full (S := S1x30) arg5.view _ off0 _ f5, load_full (S := S1x20) arg2.view _ off0 _ f2, load_full (S := S20x30) arg3.view _ off0 _ f3, load_full (S := S1x30) arg4.view _ off0 _ f4]
  have hv0 : run.sl.v75 c fx fX = xslot (View.read (Elt F) hbX.view fx) 0 (by omega) := load_slot fx 0 _ _ _ (filled_all fx fX)
  have hv1 : run.sl.v93 c fx fX = xslot (View.read (Elt F) hbX.view fx) 1 (by omega) := load_slot fx 1 _ _ _ (filled_all fx fX)
  have hv2 : run.sl.v111 c fx fX = xslot (View.read (Elt F) hbX.view fx) 2 (by omega) := load_slot fx 2 _ _ _ (filled_all fx fX)
  have hv3 : run.sl.v129 c fx fX = xslot (View.read (Elt F) hbX.view fx) 3 (by omega) := load_slot fx 3 _ _ _ (filled_all fx fX)
  have hv4 : run.sl.v147 c fx fX = xslot (View.read (Elt F) hbX.view fx) 4 (by omega) := load_slot fx 4 _ _ _ (filled_all fx fX)
  have hv5 : run.sl.v165 c fx fX = xslot (View.read (Elt F) hbX.view fx) 5 (by omega) := load_slot fx 5 _ _ _ (filled_all fx fX)
  have hv6 : run.sl.v183 c fx fX = xslot (View.read (Elt F) hbX.view fx) 6 (by omega) := load_slot fx 6 _ _ _ (filled_all fx fX)
  have hv7 : run.sl.v201 c fx fX = xslot (View.read (Elt F) hbX.view fx) 7 (by omega) := load_slot fx 7 _ _ _ (filled_all fx fX)
  generalize hWF : wfV (View.read (Elt F) arg1.view f1) (View.read (Elt F) arg3.view f3) (View.read (Elt F) arg5.view f5) (View.read (Elt F) arg6.view f6) (View.read (Elt F) arg7.view f7) = WF at hwf
  generalize hBV : bvV (View.read (Elt F) arg2.view f2) (View.read (Elt F) arg3.view f3) (View.read (Elt F) arg4.view f4) (View.read (Elt F) arg5.view f5) (View.read (Elt F) arg6.view f6) (View.read (Elt F) arg7.view f7) = BV at hbv
  have hwf' := hwf
  have hbv' := hbv
  unfold run.sl.r_2 at hwf'
  unfold run.sl.r_3 at hbv'
  have hs0 : run.sl.HY_1 c arg1 arg2 arg3 arg4 arg5 arg6 arg7 fx f1 f2 f3 f4 f5 f6 f7 fX = ⟨Rect.unit ![0, 0, 0] S1x30x2048.size inb_S8x30x2048_S1x30x2048_0_0_0, k0_pay7 WF BV (xslot (View.read (Elt F) hbX.view fx) 0 (by omega))⟩ :: [] := by
    unfold run.sl.HY_1; rw [pay6_eq, hwf', hbv', hv0]
  have hp0 : ∀ x, run.sl.dma11 c arg1 arg2 arg3 arg4 arg5 arg6 arg7 fx f1 f2 f3 f4 f5 f6 f7 fX fY x = outV WF BV (View.read (Elt F) hbX.view fx) ((Rect.unit (s := S30x16384) ![0, 0] S30x2048.size inb_S30x16384_S30x2048_0_0).emb x) := by
    intro x; unfold run.sl.dma11; rw [hs0]
    exact piece_eq WF BV (View.read (Elt F) hbX.view fx) 0 0 (by omega) rfl _ _ _ _ fY _ x
  have hs1 : run.sl.HY_2 c arg1 arg2 arg3 arg4 arg5 arg6 arg7 fx f1 f2 f3 f4 f5 f6 f7 fX = ⟨Rect.unit ![1, 0, 0] S1x30x2048.size inb_S8x30x2048_S1x30x2048_1_0_0, k0_pay7 WF BV (xslot (View.read (Elt F) hbX.view fx) 1 (by omega))⟩ :: run.sl.HY_1 c arg1 arg2 arg3 arg4 arg5 arg6 arg7 fx f1 f2 f3 f4 f5 f6 f7 fX := by
    unfold run.sl.HY_2; rw [hwf, hbv, hv1]
  have hp1 : ∀ x, run.sl.dma14 c arg1 arg2 arg3 arg4 arg5 arg6 arg7 fx f1 f2 f3 f4 f5 f6 f7 fX fY x = outV WF BV (View.read (Elt F) hbX.view fx) ((Rect.unit (s := S30x16384) ![0, 2048] S30x2048.size inb_S30x16384_S30x2048_0_2048).emb x) := by
    intro x; unfold run.sl.dma14; rw [hs1]
    exact piece_eq WF BV (View.read (Elt F) hbX.view fx) 1 2048 (by omega) rfl _ _ _ _ fY _ x
  have hs2 : run.sl.HY_3 c arg1 arg2 arg3 arg4 arg5 arg6 arg7 fx f1 f2 f3 f4 f5 f6 f7 fX = ⟨Rect.unit ![2, 0, 0] S1x30x2048.size inb_S8x30x2048_S1x30x2048_2_0_0, k0_pay7 WF BV (xslot (View.read (Elt F) hbX.view fx) 2 (by omega))⟩ :: run.sl.HY_2 c arg1 arg2 arg3 arg4 arg5 arg6 arg7 fx f1 f2 f3 f4 f5 f6 f7 fX := by
    unfold run.sl.HY_3; rw [hwf, hbv, hv2]; rfl
  have hp2 : ∀ x, run.sl.dma17 c arg1 arg2 arg3 arg4 arg5 arg6 arg7 fx f1 f2 f3 f4 f5 f6 f7 fX fY x = outV WF BV (View.read (Elt F) hbX.view fx) ((Rect.unit (s := S30x16384) ![0, 4096] S30x2048.size inb_S30x16384_S30x2048_0_4096).emb x) := by
    intro x; unfold run.sl.dma17; rw [hs2]
    exact piece_eq WF BV (View.read (Elt F) hbX.view fx) 2 4096 (by omega) rfl _ _ _ _ fY _ x
  have hs3 : run.sl.HY_4 c arg1 arg2 arg3 arg4 arg5 arg6 arg7 fx f1 f2 f3 f4 f5 f6 f7 fX = ⟨Rect.unit ![3, 0, 0] S1x30x2048.size inb_S8x30x2048_S1x30x2048_3_0_0, k0_pay7 WF BV (xslot (View.read (Elt F) hbX.view fx) 3 (by omega))⟩ :: run.sl.HY_3 c arg1 arg2 arg3 arg4 arg5 arg6 arg7 fx f1 f2 f3 f4 f5 f6 f7 fX := by
    unfold run.sl.HY_4; rw [hwf, hbv, hv3]; rfl
  have hp3 : ∀ x, run.sl.dma20 c arg1 arg2 arg3 arg4 arg5 arg6 arg7 fx f1 f2 f3 f4 f5 f6 f7 fX fY x = outV WF BV (View.read (Elt F) hbX.view fx) ((Rect.unit (s := S30x16384) ![0, 6144] S30x2048.size inb_S30x16384_S30x2048_0_6144).emb x) := by
    intro x; unfold run.sl.dma20; rw [hs3]
    exact piece_eq WF BV (View.read (Elt F) hbX.view fx) 3 6144 (by omega) rfl _ _ _ _ fY _ x
  have hs4 : run.sl.HY_5 c arg1 arg2 arg3 arg4 arg5 arg6 arg7 fx f1 f2 f3 f4 f5 f6 f7 fX = ⟨Rect.unit ![4, 0, 0] S1x30x2048.size inb_S8x30x2048_S1x30x2048_4_0_0, k0_pay7 WF BV (xslot (View.read (Elt F) hbX.view fx) 4 (by omega))⟩ :: run.sl.HY_4 c arg1 arg2 arg3 arg4 arg5 arg6 arg7 fx f1 f2 f3 f4 f5 f6 f7 fX := by
    unfold run.sl.HY_5; rw [hwf, hbv, hv4]; rfl
  have hp4 : ∀ x, run.sl.dma23 c arg1 arg2 arg3 arg4 arg5 arg6 arg7 fx f1 f2 f3 f4 f5 f6 f7 fX fY x = outV WF BV (View.read (Elt F) hbX.view fx) ((Rect.unit (s := S30x16384) ![0, 8192] S30x2048.size inb_S30x16384_S30x2048_0_8192).emb x) := by
    intro x; unfold run.sl.dma23; rw [hs4]
    exact piece_eq WF BV (View.read (Elt F) hbX.view fx) 4 8192 (by omega) rfl _ _ _ _ fY _ x
  have hs5 : run.sl.HY_6 c arg1 arg2 arg3 arg4 arg5 arg6 arg7 fx f1 f2 f3 f4 f5 f6 f7 fX = ⟨Rect.unit ![5, 0, 0] S1x30x2048.size inb_S8x30x2048_S1x30x2048_5_0_0, k0_pay7 WF BV (xslot (View.read (Elt F) hbX.view fx) 5 (by omega))⟩ :: run.sl.HY_5 c arg1 arg2 arg3 arg4 arg5 arg6 arg7 fx f1 f2 f3 f4 f5 f6 f7 fX := by
    unfold run.sl.HY_6; rw [hwf, hbv, hv5]; rfl
  have hp5 : ∀ x, run.sl.dma26 c arg1 arg2 arg3 arg4 arg5 arg6 arg7 fx f1 f2 f3 f4 f5 f6 f7 fX fY x = outV WF BV (View.read (Elt F) hbX.view fx) ((Rect.unit (s := S30x16384) ![0, 10240] S30x2048.size inb_S30x16384_S30x2048_0_10240).emb x) := by
    intro x; unfold run.sl.dma26; rw [hs5]
    exact piece_eq WF BV (View.read (Elt F) hbX.view fx) 5 10240 (by omega) rfl _ _ _ _ fY _ x
  have hs6 : run.sl.HY_7 c arg1 arg2 arg3 arg4 arg5 arg6 arg7 fx f1 f2 f3 f4 f5 f6 f7 fX = ⟨Rect.unit ![6, 0, 0] S1x30x2048.size inb_S8x30x2048_S1x30x2048_6_0_0, k0_pay7 WF BV (xslot (View.read (Elt F) hbX.view fx) 6 (by omega))⟩ :: run.sl.HY_6 c arg1 arg2 arg3 arg4 arg5 arg6 arg7 fx f1 f2 f3 f4 f5 f6 f7 fX := by
    unfold run.sl.HY_7; rw [hwf, hbv, hv6]; rfl
  have hp6 : ∀ x, run.sl.dma29 c arg1 arg2 arg3 arg4 arg5 arg6 arg7 fx f1 f2 f3 f4 f5 f6 f7 fX fY x = outV WF BV (View.read (Elt F) hbX.view fx) ((Rect.unit (s := S30x16384) ![0, 12288] S30x2048.size inb_S30x16384_S30x2048_0_12288).emb x) := by
    intro x; unfold run.sl.dma29; rw [hs6]
    exact piece_eq WF BV (View.read (Elt F) hbX.view fx) 6 12288 (by omega) rfl _ _ _ _ fY _ x
  have hs7 : run.sl.HY_8 c arg1 arg2 arg3 arg4 arg5 arg6 arg7 fx f1 f2 f3 f4 f5 f6 f7 fX = ⟨Rect.unit ![7, 0, 0] S1x30x2048.size inb_S8x30x2048_S1x30x2048_7_0_0, k0_pay7 WF BV (xslot (View.read (Elt F) hbX.view fx) 7 (by omega))⟩ :: run.sl.HY_7 c arg1 arg2 arg3 arg4 arg5 arg6 arg7 fx f1 f2 f3 f4 f5 f6 f7 fX := by
    unfold run.sl.HY_8; rw [hwf, hbv, hv7]; rfl
  have hp7 : ∀ x, run.sl.dma32 c arg1 arg2 arg3 arg4 arg5 arg6 arg7 fx f1 f2 f3 f4 f5 f6 f7 fX fY x = outV WF BV (View.read (Elt F) hbX.view fx) ((Rect.unit (s := S30x16384) ![0, 14336] S30x2048.size inb_S30x16384_S30x2048_0_14336).emb x) := by
    intro x; unfold run.sl.dma32; rw [hs7]
    exact piece_eq WF BV (View.read (Elt F) hbX.view fx) 7 14336 (by omega) rfl _ _ _ _ fY _ x
  have hO := result_eq fo (outV WF BV (View.read (Elt F) hbX.view fx)) _ _ _ _ _ _ _ _ hp0 hp1 hp2 hp3 hp4 hp5 hp6 hp7
  rw [hO]
  clear hO hwf hbv hwf' hbv' hv0 hv1 hv2 hv3 hv4 hv5 hv6 hv7 hs0 hs1 hs2 hs3 hs4 hs5 hs6 hs7 hp0 hp1 hp2 hp3 hp4 hp5 hp6 hp7
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HX]
  · iexists _; iexact HX
  isplitl [HY]
  · iexists _; iexact HY
  isplitl [Hq7 Hq8 Hq9 Hq10 Hq11 Hq12 Hq13 Hq14 Hq15 Hq16 Hq17 Hq18 Hq19 Hq20 Hq21 Hq22]
  · unfold sems0; iframe Hq7 Hq8 Hq9 Hq10 Hq11 Hq12 Hq13 Hq14 Hq15 Hq16 Hq17 Hq18 Hq19 Hq20 Hq21 Hq22
  isplitl [Hx]
  · iexact Hx
  isplitl [Ho]
  · subst hWF hBV; iexact Ho
  iexists _; iexact HW

end Cert.KernelIdeal.Hand

end
-- ==== Proof.KernelIdeal.Run.lean ====
/-
  The launch: @main's reshapes of the small operands, the kernel's one region, and the transpose after it. The region's invariant
  holds the input and the result left in HBM whole, the result at its entry contents before the one grid point and at `outB` after
  it. The run's post reads every argument buffer as launched and the program's result as the transpose of `outB`.
-/
module

public import proofs.«01_k».proof.Proof.Gen.KernelIdeal.Frame
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's model: the pipeline library's user algebra beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the region holds besides its windows -/

/-- The sixteen copy counters of the kernel's own copies. -/
abbrev osem0 : Fin 16 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = sems0 c := by
  rw [Pipeline.ownSems0_eq_of_list c osem0 [0, 1, 2, 3, 4, 5, 6, 7, 8, 9, 10, 11, 12, 13, 14, 15] (by decide) (by decide)]; rfl

/-- The buffer read in HBM and the buffer written in HBM. -/
def H0 : Finset (Ref sig .tc) := {main_arg0}
theorem H0_sub : H0 ⊆ Pipeline.restRefs sig spec0 := by decide
def R0 : Finset (Ref sig .tc) := {main_call0_v5}
theorem R0_sub : R0 ⊆ Pipeline.restRefs sig spec0 \ H0 := by decide

/-- What the one grid point leaves in the result buffer, over the staged operands. -/
abbrev resB (c : Dev nD) : Cont (F := F) c hbO :=
  outB c (iblk m c 0 t0_0) (iblk m c 1 t0_0) (iblk m c 2 t0_0) (iblk m c 3 t0_0) (iblk m c 4 t0_0) (iblk m c 5 t0_0) (iblk m c 6 t0_0) (V m c main_arg0)

/-- The buffers' contents after the region: the result buffer's replaced. -/
def G (c : Dev nD) : (b : Ref sig .tc) → Buf (Elt F) ((c : Thread nD τ).loc b) := Function.update (fun b => V m c b) main_call0_v5 (resB m c)
theorem G_res (c : Dev nD) : G m c main_call0_v5 = resB m c := Function.update_self _ _ _

/-- The region's invariant, by its conjuncts, the written buffer at any contents. -/
theorem phi_eq (c : Dev nD) (G' : (c : Dev nD) → (b : Ref sig .tc) → Buf (Elt F) ((c : Thread nD τ).loc b)) :
    (Pipeline.ΦDRV osem0 spec0 H0 R0 (V m) G' c : sProp 𝕄)
      = iprop(iprop((∃ f, hpt c scX f) ∗ (∃ f, hpt c scY f)) ∗ sems0 c ∗ hpt c hbX (V m c main_arg0) ∗ hpt c hbO (G' c main_call0_v5)) := by
  unfold Pipeline.ΦDRV
  rw [scopedRest0_eq, ownSems00_eq]
  simp only [H0, R0, bigSep_singleton]

/-! ## The proof data and the body's obligation -/

/-- The region's proof data: the arrays as the region finds them, each staged operand left in place, the result buffer at its
    entry contents before the point and at the point's value after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨n + 7, h⟩ => absurd h (by show ¬ n + 7 < 7; omega)
  Φ j := Pipeline.ΦDRV osem0 spec0 H0 R0 (V m) (if j.val = 0 then V m else G m) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- The body takes the invariant from the entry contents to the point's value. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  simp only [before_0, before_1, before_2, before_3, before_4, before_5, before_6, after_0, after_1, after_2, after_3, after_4, after_5, after_6]
  rw [show (dats m 0 c).Φ (Fin.succ t0_0) = Pipeline.ΦDRV osem0 spec0 H0 R0 (V m) (G m) c from rfl,
    show (dats m 0 c).Φ (Fin.castSucc t0_0) = Pipeline.ΦDRV osem0 spec0 H0 R0 (V m) (V m) c from rfl, phi_eq, phi_eq, G_res]
  unfold Dat.owesAt Pipeline.owesWithin
  rw [show (dats m 0 c).owed (Fin.castSucc t0_0) = 0 from rfl, show (dats m 0 c).owed (Fin.succ t0_0) = 0 from rfl]
  iintro ⟨⟨⟨HX, HY⟩, Hq, Hx, Ho⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run c _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) (V m c main_arg0) (V m c main_call0_v5) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HX]; · iexact HX
  isplitl [HY]; · iexact HY
  isplitl [Hq]; · iexact Hq
  isplitl [Hx]; · iexact Hx
  isplitl [Ho]; · iexact Ho
  isplitl [HW]; · iexact HW
  iintro ⟨H0, H1, H2, H3, H4, H5, H6, HX, HY, Hq, Hx, Ho, ⟨%W', HW'⟩⟩
  isplitl [HX HY Hq Hx Ho]
  · isplitl [HX HY]
    · isplitl [HX]; · iexact HX
      iexact HY
    isplitl [Hq]; · iexact Hq
    isplitl [Hx]; · iexact Hx
    iexact Ho
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- @main around its one region. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the buffers no window stages hold at the end. -/
abbrev fin (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = fin m c (Proc.devRef .tc b)) ∧ r.2.sem = fun _ => 0) :=
  Pipeline.θ_run_frame_dmaR_aroundV (Q' := _) (hQ' := fun _ h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := A_eq m) (hin := fun _ => .rfl) (hout := fun _ => .rfl)

end Cert.KernelIdeal.Hand

end
-- ==== Proof.KernelIdeal.Result.lean ====
/-
  What the run leaves: every argument buffer as launched, and the program's result the transpose of what the region left.
-/
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- A buffer that no window stages, the region does not write and the transpose does not write keeps its entry contents. -/
theorem fin_of (c : Dev nD) (b : Ref sig .tc) (h1 : b ≠ main_v0) (h2 : ∀ w, Pipeline.arrRef spec0 w ≠ b) (h3 : b ∉ R0) :
    fin m c (Proc.devRef .tc b) = V m c b := by
  unfold fin
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h1)),
    Pipeline.withArrays_of_ne _ c _ _ b h2, Pipeline.withR_of_not_mem _ _ _ _ b h3]

/-- The program's result: the transpose of what the region left. -/
theorem fin_res (c : Dev nD) : fin m c (Proc.devRef .tc main_v0) = transpose S16384x30 [1, 0] (resB m c) transposes_S30x16384_S16384x30_1_0 := by
  have h : Pipeline.withArrays spec0 c (Pipeline.withR (V0 m c) R0 c (G m c)) (fun w => (dats m 0 c).arrAt w cfg0.N) (Proc.devRef .tc main_call0_v5)
      = resB m c := by
    rw [Pipeline.withArrays_of_ne _ c _ _ main_call0_v5 (by decide), Pipeline.withR_of_mem _ _ _ _ main_call0_v5 (by decide), G_res]
  rw [← h]
  unfold fin
  simp only [hostOps1, List.flatten_cons, List.flatten_nil, List.append_nil, StableHlo.after_cons, StableHlo.after_nil]
  exact StableHlo.unary_result' _ _ _ _

/-- The run, with the result's value and the argument buffers as launched. -/
theorem run_full : θ_run defs (onTc (τ := τ) (main (F := F))) ⟨m, fun _ => 0, ρ⟩ (fun r => (∀ c : Dev nD,
      r.2.mem ((c.tc : Thread nD τ).loc main_v0) = transpose S16384x30 [1, 0] (resB m c) transposes_S30x16384_S16384x30_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have rest (b : Ref sig .tc) (hb : b ∈ Pipeline.restRefs sig spec0) (h1 : b ≠ main_v0) (h2 : ∀ w, Pipeline.arrRef spec0 w ≠ b) (h3 : b ∉ R0) :
        r.2.mem ((c.tc : Thread nD τ).loc b) = V m c b := ((h.1 c).2 b hb).trans (fin_of m c b h1 h2 h3)
    have arr (w) (hw : (cfg0.win w).isOut = false) := ((h.1 c).1 w).trans (((dats m 0 c).arrAt_in w hw _).trans (A_eq m c w))
    ⟨((h.1 c).2 main_v0 (Pipeline.mem_restRefs_of main_v0 (by decide) (by decide))).trans (fin_res m c),
      (rest main_arg0 (Pipeline.mem_restRefs_of main_arg0 (by decide) (by decide)) (by decide) (by decide) (by decide)).trans (V_main_arg0 m c),
      (arr 0 rfl).trans (V_main_arg1 m c),
      (rest main_arg2 (Pipeline.mem_restRefs_of main_arg2 (by decide) (by decide)) (by decide) (by decide) (by decide)).trans (V_main_arg2 m c),
      (arr 2 rfl).trans (V_main_arg3 m c),
      (rest main_arg4 (Pipeline.mem_restRefs_of main_arg4 (by decide) (by decide)) (by decide) (by decide) (by decide)).trans (V_main_arg4 m c),
      (rest main_arg5 (Pipeline.mem_restRefs_of main_arg5 (by decide) (by decide)) (by decide) (by decide) (by decide)).trans (V_main_arg5 m c),
      (rest main_arg6 (Pipeline.mem_restRefs_of main_arg6 (by decide) (by decide)) (by decide) (by decide) (by decide)).trans (V_main_arg6 m c),
      (rest main_arg7 (Pipeline.mem_restRefs_of main_arg7 (by decide) (by decide)) (by decide) (by decide) (by decide)).trans (V_main_arg7 m c)⟩, h.2⟩) (run_main m ρ)

/-- The frame: every argument buffer ends as launched and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_full m ρ)

end Cert.KernelIdeal.Hand

end
-- ==== Proof.Value.Blocks.lean ====
/-
  What the body's seven staged operands hold, as the arguments' launch contents: each window is its whole array.
-/
module

public import proofs.«01_k».proof.Proof.KernelIdeal.Result
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- Argument 2 as the region finds it: reshaped to one row. -/
theorem entry_2 (c : Dev nD) (j : Fin 20) : V m c main_call0_v0 (ix2 0 j) = m ((c.tc : Thread nD τ).loc main_arg2) (ix1 j) := by
  have h : V m c main_call0_v0 = shapeCast S1x20 (m ((c.tc : Thread nD τ).loc main_arg2)) shapeCasts_S20_S1x20 := by
    simp only [V, V0, hostOps0, List.flatten_cons, List.flatten_nil, List.append_nil, StableHlo.after_cons, StableHlo.after_nil, StableHlo.TRef.reshape]
    after_results_simp
    rfl
  rw [h]
  pointwise

/-- Argument 4 as the region finds it: reshaped to one row. -/
theorem entry_4 (c : Dev nD) (j : Fin 30) : V m c main_call0_v1 (ix2 0 j) = m ((c.tc : Thread nD τ).loc main_arg4) (ix1 j) := by
  have h : V m c main_call0_v1 = shapeCast S1x30 (m ((c.tc : Thread nD τ).loc main_arg4)) shapeCasts_S30_S1x30 := by
    simp only [V, V0, hostOps0, List.flatten_cons, List.flatten_nil, List.append_nil, StableHlo.after_cons, StableHlo.after_nil, StableHlo.TRef.reshape]
    after_results_simp
    rfl
  rw [h]
  pointwise

/-- Argument 5 as the region finds it: reshaped to one row. -/
theorem entry_5 (c : Dev nD) (j : Fin 30) : V m c main_call0_v2 (ix2 0 j) = m ((c.tc : Thread nD τ).loc main_arg5) (ix1 j) := by
  have h : V m c main_call0_v2 = shapeCast S1x30 (m ((c.tc : Thread nD τ).loc main_arg5)) shapeCasts_S30_S1x30 := by
    simp only [V, V0, hostOps0, List.flatten_cons, List.flatten_nil, List.append_nil, StableHlo.after_cons, StableHlo.after_nil, StableHlo.TRef.reshape]
    after_results_simp
    rfl
  rw [h]
  pointwise

/-- Argument 6 as the region finds it: reshaped to one row. -/
theorem entry_6 (c : Dev nD) (j : Fin 30) : V m c main_call0_v3 (ix2 0 j) = m ((c.tc : Thread nD τ).loc main_arg6) (ix1 j) := by
  have h : V m c main_call0_v3 = shapeCast S1x30 (m ((c.tc : Thread nD τ).loc main_arg6)) shapeCasts_S30_S1x30 := by
    simp only [V, V0, hostOps0, List.flatten_cons, List.flatten_nil, List.append_nil, StableHlo.after_cons, StableHlo.after_nil, StableHlo.TRef.reshape]
    after_results_simp
    rfl
  rw [h]
  pointwise

/-- Argument 7 as the region finds it: reshaped to one row. -/
theorem entry_7 (c : Dev nD) (j : Fin 30) : V m c main_call0_v4 (ix2 0 j) = m ((c.tc : Thread nD τ).loc main_arg7) (ix1 j) := by
  have h : V m c main_call0_v4 = shapeCast S1x30 (m ((c.tc : Thread nD τ).loc main_arg7)) shapeCasts_S30_S1x30 := by
    simp only [V, V0, hostOps0, List.flatten_cons, List.flatten_nil, List.append_nil, StableHlo.after_cons, StableHlo.after_nil, StableHlo.TRef.reshape]
    after_results_simp
    rfl
  rw [h]
  pointwise

/-- The first layer's matrix. -/
theorem iblk_0 (c : Dev nD) (i : Fin 128) (j : Fin 20) : iblk m c 0 t0_0 (ix2 i j) = m ((c.tc : Thread nD τ).loc main_arg1) (ix2 i j) := by
  have i0 : win0_0.index t0_0 0 = 0 := rfl
  have i1 : win0_0.index t0_0 1 = 0 := rfl
  blk_ext! [iblk, V, i0, i1]

/-- The first layer's bias, as one row. -/
theorem iblk_1 (c : Dev nD) (j : Fin 20) : iblk m c 1 t0_0 (ix2 0 j) = m ((c.tc : Thread nD τ).loc main_arg2) (ix1 j) := by
  have i0 : win0_1.index t0_0 0 = 0 := rfl
  have i1 : win0_1.index t0_0 1 = 0 := rfl
  have h : iblk m c 1 t0_0 (ix2 0 j) = V m c main_call0_v0 (ix2 0 j) := by blk_ext [iblk, i0, i1]
  exact h.trans (entry_2 m c j)

/-- The second layer's matrix. -/
theorem iblk_2 (c : Dev nD) (i : Fin 20) (j : Fin 30) : iblk m c 2 t0_0 (ix2 i j) = m ((c.tc : Thread nD τ).loc main_arg3) (ix2 i j) := by
  have i0 : win0_2.index t0_0 0 = 0 := rfl
  have i1 : win0_2.index t0_0 1 = 0 := rfl
  blk_ext! [iblk, V, i0, i1]

/-- The second layer's bias, as one row. -/
theorem iblk_3 (c : Dev nD) (j : Fin 30) : iblk m c 3 t0_0 (ix2 0 j) = m ((c.tc : Thread nD τ).loc main_arg4) (ix1 j) := by
  have i0 : win0_3.index t0_0 0 = 0 := rfl
  have i1 : win0_3.index t0_0 1 = 0 := rfl
  have h : iblk m c 3 t0_0 (ix2 0 j) = V m c main_call0_v1 (ix2 0 j) := by blk_ext [iblk, i0, i1]
  exact h.trans (entry_4 m c j)

/-- The sparse matrix's stored values, as one row. -/
theorem iblk_4 (c : Dev nD) (j : Fin 30) : iblk m c 4 t0_0 (ix2 0 j) = m ((c.tc : Thread nD τ).loc main_arg5) (ix1 j) := by
  have i0 : win0_4.index t0_0 0 = 0 := rfl
  have i1 : win0_4.index t0_0 1 = 0 := rfl
  have h : iblk m c 4 t0_0 (ix2 0 j) = V m c main_call0_v2 (ix2 0 j) := by blk_ext [iblk, i0, i1]
  exact h.trans (entry_5 m c j)

/-- The stored entries' row numbers, as one row. -/
theorem iblk_5 (c : Dev nD) (j : Fin 30) : iblk m c 5 t0_0 (ix2 0 j) = m ((c.tc : Thread nD τ).loc main_arg6) (ix1 j) := by
  have i0 : win0_5.index t0_0 0 = 0 := rfl
  have i1 : win0_5.index t0_0 1 = 0 := rfl
  have h : iblk m c 5 t0_0 (ix2 0 j) = V m c main_call0_v3 (ix2 0 j) := by blk_ext [iblk, i0, i1]
  exact h.trans (entry_6 m c j)

/-- The stored entries' column numbers, as one row. -/
theorem iblk_6 (c : Dev nD) (j : Fin 30) : iblk m c 6 t0_0 (ix2 0 j) = m ((c.tc : Thread nD τ).loc main_arg7) (ix1 j) := by
  have i0 : win0_6.index t0_0 0 = 0 := rfl
  have i1 : win0_6.index t0_0 1 = 0 := rfl
  have h : iblk m c 6 t0_0 (ix2 0 j) = V m c main_call0_v4 (ix2 0 j) := by blk_ext [iblk, i0, i1]
  exact h.trans (entry_7 m c j)

end Cert.KernelIdeal.Hand

end
-- ==== Proof.Value.Kernel.lean ====
/-
  What the kernel computes at one element of its result: the folded affine map, written out over its operands.
-/
module

public import proofs.«01_k».proof.Proof.KernelIdeal.Body
public import Idealize.ShloMosaic.Lib.Pointwise

@[expose] public section

set_option maxRecDepth 16384

noncomputable section

namespace Cert.KernelIdeal.Hand

open Cert.KernelIdeal Cert.KernelIdeal.Gen
open Idealize.ShloMosaic

/-- A comparison bit, widened and converted: one or zero. -/
def bit (p : Prop) [Decidable p] : EReal := if p then 1 else 0

/-- The kernel's zero matrix. -/
abbrev zeros : FVec Ideal S30x30 .f32 := constant S30x30 .f32 0x00000000#32

/-- An equality of two words as the kernel turns it into a float. -/
theorem sitofp_eq (a b : BitVec 32) : FloatOps.sitofp (F := Ideal) .f32 (BitVec.setWidth 32 (IntOp.cmpi .eq a b)) = bit (a = b) := by
  by_cases h : a = b
  · have e : IntOp.cmpi .eq a b = 1#1 := by subst h; simp [IntOp.cmpi]
    rw [e, bit, if_pos h]
    show (((BitVec.setWidth 32 1#1).toInt : ℝ) : EReal) = 1
    norm_num
  · have e : IntOp.cmpi .eq a b = 0#1 := by
      show BitVec.ofBool (a == b) = 0#1
      rw [beq_eq_false_iff_ne.2 h]; rfl
    rw [e, bit, if_neg h]
    show (((BitVec.setWidth 32 0#1).toInt : ℝ) : EReal) = 0
    norm_num

/-- The densified sparse matrix, transposed, at column `k` and row `b`: a sum over the stored entries. -/
theorem dense_apply (x5 : Vec Ideal S1x30 .f32) (x6 x7 : Vec Ideal S1x30 .i32) (k b : Fin 30) :
    k0_pay3 (F := Ideal) (k0_pay1 x6) (k0_pay2 x7 x5) zeros (ix2 k b)
      = ∑ j : Fin 30, bit (x7 (ix2 0 j) = BitVec.ofNat 32 k.val) * x5 (ix2 0 j) * bit (x6 (ix2 0 j) = BitVec.ofNat 32 b.val) := by
  pointwise [k0_pay3, k0_pay1, k0_pay2]
  simp only [sitofp_eq]

/-- The folded matrix at input feature `d` and output `b`. -/
theorem wfV_apply (x1 : Vec Ideal S128x20 .f32) (x3 : Vec Ideal S20x30 .f32) (x5 : Vec Ideal S1x30 .f32) (x6 x7 : Vec Ideal S1x30 .i32) (d : Fin 128) (b : Fin 30) :
    wfV x1 x3 x5 x6 x7 (ix2 d b)
      = ∑ k : Fin 30, (∑ e : Fin 20, x1 (ix2 d e) * x3 (ix2 e k)) * k0_pay3 (F := Ideal) (k0_pay1 x6) (k0_pay2 x7 x5) zeros (ix2 k b) := by
  unfold wfV
  pointwise [k0_pay4]

/-- The folded bias at output `b`. -/
theorem bvV_apply (x2 : Vec Ideal S1x20 .f32) (x3 : Vec Ideal S20x30 .f32) (x4 x5 : Vec Ideal S1x30 .f32) (x6 x7 : Vec Ideal S1x30 .i32) (b : Fin 30) :
    bvV x2 x3 x4 x5 x6 x7 (ix2 b 0)
      = ∑ k : Fin 30, k0_pay3 (F := Ideal) (k0_pay1 x6) (k0_pay2 x7 x5) zeros (ix2 k b) * (∑ e : Fin 20, x2 (ix2 0 e) * x3 (ix2 e k) + x4 (ix2 0 k)) := by
  unfold bvV
  pointwise [k0_pay5]

/-- The result array at output `b` and batch row `n`: the folded map of that row. -/
theorem outV_apply (wf : FVec Ideal S128x30 .f32) (bv : FVec Ideal S30x1 .f32) (X : FVec Ideal S16384x128 .f32) (b : Fin 30) (n : Fin 16384) :
    outV wf bv X (ix2 b n) = ∑ d : Fin 128, wf (ix2 d b) * X (ix2 n d) + bv (ix2 b 0) := by
  have h : k0_pay7 wf bv (xslot X (n.val / 2048) (by have := n.isLt; omega)) (ix3 0 b ⟨n.val % 2048, Nat.mod_lt _ (by decide)⟩)
      = ∑ d : Fin 128, wf (ix2 d b) * X (ix2 n d) + bv (ix2 b 0) := by
    pointwise [k0_pay7, xslot]
    refine congrArg (· + bv (ix2 b 0)) (Finset.sum_congr rfl fun d _ => congrArg (wf (ix2 d b) * ·) ?_)
    rw [← ix2_eq_valueIdx, show (⟨n.val / 2048 * 2048 + n.val % 2048, by have := n.isLt; omega⟩ : Fin 16384) = n from Fin.ext (Nat.div_add_mod' _ _)]
  rw [ix3_eq_valueIdx] at h
  exact h

end Cert.KernelIdeal.Hand

end
-- ==== Proof.Value.Reference.lean ====
/-
  What the reference computes at one element of its result: a sum over the sparse matrix's stored entries of that row.
-/
module

public import proofs.«01_k».proof.Proof.Gen.ReferenceIdeal
public import Idealize.ShloMosaic.Lib.Pointwise
public import Idealize.ShloMosaic.Lib.Routing.OpsPair
public import Idealize.ShloMosaic.Lib.Routing.Ops
@[expose] public section
noncomputable section
namespace Cert.ReferenceIdeal.Hand

open Cert.ReferenceIdeal Cert.ReferenceIdeal.Gen
open Idealize.ShloMosaic

section Terms

variable {F : FTy → Type} [FloatOps F]

/-- An index table as the gather and the scatter read it: a negative entry counted from the end, one entry per row. -/
def table (i : IVec S30 32) : IVec S30x1 32 :=
  broadcastInDim S30x1 ![0] bcast_S30_S30x1_0
    (select (cmpi .slt i (broadcastInDim S30 ![] bcast_S_S30 (constantI S_ 32 0#32))) (addi i (broadcastInDim S30 ![] bcast_S_S30 (constantI S_ 32 30#32))) i)

/-- The two dense layers. -/
def layers (x : FVec F S16384x128 .f32) (W1 : FVec F S128x20 .f32) (b1 : FVec F S20 .f32) (W2 : FVec F S20x30 .f32) (b2 : FVec F S30 .f32) : FVec F S16384x30 .f32 :=
  addf (Host.dotGeneral dot_S16384x20_S20x30_S16384x30_1_0_0_1_n_n none
      (addf (Host.dotGeneral dot_S16384x128_S128x20_S16384x20_1_0_0_1_n_n none x W1)
        (broadcastInDim S16384x20 ![0, 1] bcast_S1x20_S16384x20_0_1 (broadcastInDim S1x20 ![1] bcast_S20_S1x20_1 b1))) W2)
    (broadcastInDim S16384x30 ![0, 1] bcast_S1x30_S16384x30_0_1 (broadcastInDim S1x30 ![1] bcast_S30_S1x30_1 b2))

/-- One row per stored entry: its value times the layers' output column that it names. -/
def scaled (y : FVec F S16384x30 .f32) (v : FVec F S30 .f32) (cols : IVec S30 32) : FVec F S30x16384 .f32 :=
  mulf (broadcastInDim S30x16384 ![0, 1] bcast_S30x1_S30x16384_0_1 (broadcastInDim S30x1 ![0] bcast_S30_S30x1_0 v))
    (Host.gather gather_S30x16384_S30x1_S30x16384_1_0_n_n_0_1_116384 (transpose S30x16384 [1, 0] y transposes_S16384x30_S30x16384_1_0) (table cols))

/-- The entries' rows added up where their row numbers say, transposed back. -/
def summed (u : FVec F S30x16384 .f32) (rows : IVec S30 32) : FVec F S16384x30 .f32 :=
  transpose S16384x30 [1, 0] (Host.scatterAdd scatter_S30x16384_S30x1_S30x16384_1_0_0_1
    (broadcastInDim S30x16384 ![] bcast_S_S30x16384 (constant S_ .f32 0x00000000#32)) (table rows) u) transposes_S30x16384_S16384x30_1_0

end Terms

/-- An entry that is not negative is read as it stands. -/
theorem table_apply (i : IVec S30 32) (j : Fin 30) (h : (i (ix1 j)).toNat < 2 ^ 31) : table i (ix2 j 0) = i (ix1 j) := by
  pointwise [table]
  exact Routing.wrap_of_lt _ _ h

/-- The two dense layers at row `n`, column `k`. -/
theorem layers_apply (x W1 b1 W2 b2) (n : Fin 16384) (k : Fin 30) : layers (F := Ideal) x W1 b1 W2 b2 (ix2 n k)
    = ∑ e : Fin 20, (∑ d : Fin 128, x (ix2 n d) * W1 (ix2 d e) + b1 (ix1 e)) * W2 (ix2 e k) + b2 (ix1 k) := by
  pointwise [layers]

/-- A stored entry's row at column `n`: its value times the layers' output in the column it names. -/
theorem scaled_apply (y v cols) (j : Fin 30) (n : Fin 16384) (h : (cols (ix1 j)).toNat < 30) : scaled (F := Ideal) y v cols (ix2 j n)
    = v (ix1 j) * y (ix2 n ⟨(cols (ix1 j)).toNat, h⟩) := by
  pointwise [scaled]
  refine congrArg (v (ix1 j) * ·) ?_
  rw [ix2_eq_valueIdx, Routing.gather_row _ rfl rfl rfl rfl rfl _ _ j n ⟨(cols (ix1 j)).toNat, h⟩ (by
    rw [← ix2_eq_valueIdx, table_apply cols j (by omega)]; exact (BitVec.ofNat_toNat 32 _ ▸ BitVec.setWidth_eq _).symm) (by omega), ← ix2_eq_valueIdx]
  pointwise

/-- Update `(j, m)` lands at `(b, n)` exactly when entry `j` of the table is `b` and `m` is `n`. -/
theorem lands (idx : IVec S30x1 32) (j b : Fin 30) (m n : Fin 16384) :
    scatter_S30x16384_S30x1_S30x16384_1_0_0_1.resultIdx? (ix2 j m) idx = some (ix2 b n) ↔ (idx (ix2 j 0)).toInt = (b.val : Int) ∧ m = n := by
  have h0 : scatter_S30x16384_S30x1_S30x16384_1_0_0_1.start (ix2 j m) idx 0 = (idx (ix2 j 0)).toInt := by
    unfold ScatterDims.start
    rw [dif_pos (by decide)]
    refine congrArg (fun i => (idx i).toInt) (funext fun a => ?_)
    match a with
    | ⟨0, _⟩ => rfl
    | ⟨1, _⟩ => rfl
  have h1 : scatter_S30x16384_S30x1_S30x16384_1_0_0_1.start (ix2 j m) idx 1 = 0 := by
    unfold ScatterDims.start; rw [dif_neg (by decide)]
  have w0 : scatter_S30x16384_S30x1_S30x16384_1_0_0_1.window (ix2 j m) 0 = 0 := by
    unfold ScatterDims.window; rw [dif_neg (by decide)]
  have w1 : scatter_S30x16384_S30x1_S30x16384_1_0_0_1.window (ix2 j m) 1 = m.val := by
    unfold ScatterDims.window; rw [dif_pos (by decide)]; rfl
  rw [ix2_eq_valueIdx b n, Routing.resultIdx?_ix2, h0, h1, w0, w1]
  simp [Fin.ext_iff]

/-- The result at row `n`, column `b`: the sum, over the stored entries of row `b`, of the entries' rows at `n`. -/
theorem summed_apply (u rows) (b : Fin 30) (n : Fin 16384) (h : ∀ j : Fin 30, (rows (ix1 j)).toNat < 2 ^ 31) : summed (F := Ideal) u rows (ix2 n b)
    = ∑ j ∈ Finset.univ.filter (fun j : Fin 30 => (rows (ix1 j)).toNat = b.val), u (ix2 j n) := by
  have e (j : Fin 30) : ((rows (ix1 j)).toInt = (b.val : Int)) ↔ (rows (ix1 j)).toNat = b.val := by
    have := h j
    rw [BitVec.toInt_eq_toNat_of_lt (by omega)]; exact Int.natCast_inj
  pointwise [summed]
  show Ideal.hostScatterAdd _ _ _ _ (ix2 b n) = _
  unfold Ideal.hostScatterAdd
  rw [Finset.sum_filter, ValueIdx.sum_idx2, Finset.sum_filter]
  simp only [← ix2_eq_valueIdx, lands, table_apply rows _ (h _), e]
  pointwise
  refine Finset.sum_congr rfl fun j _ => ?_
  by_cases hj : (rows (ix1 j)).toNat = b.val <;> simp [hj]

end Cert.ReferenceIdeal.Hand

end
-- ==== Proof.Value.Reals.lean ====
/-
  The equation over the reals: two dense layers followed by a sparse matrix product, computed layer by layer, are the
  same numbers as one affine map whose matrix and bias have the sparse matrix folded in.
-/
module

public import Mathlib.Data.EReal.Operations
public import Mathlib.Algebra.BigOperators.Ring.Finset
public import Mathlib.Algebra.BigOperators.Group.Finset.Sigma
public import Mathlib.Tactic.Ring

@[expose] public section

noncomputable section

namespace Cert.Equation

/-- One where the proposition holds, zero elsewhere. -/
def ind (p : Prop) [Decidable p] : ℝ := if p then 1 else 0

section Sums

variable {D E N R : Type} [Fintype D] [Fintype E] [Fintype N] [DecidableEq N] [DecidableEq R]
variable (x : D → ℝ) (W₁ : D → E → ℝ) (b₁ : E → ℝ) (W₂ : E → N → ℝ) (b₂ : N → ℝ) (v : N → ℝ) (r : N → R) (c : N → N)

/-- The sparse matrix, transposed and densified, at column `k` and row `b`. -/
def dense (k : N) (b : R) : ℝ := ∑ j, ind (c j = k) * v j * ind (r j = b)

/-- The second layer's output at column `k`, layer by layer. -/
def layer (k : N) : ℝ := ∑ e, (∑ d, x d * W₁ d e + b₁ e) * W₂ e k + b₂ k

/-- The affine map with the sparse matrix folded into its matrix and its bias, at row `b`. -/
def folded (b : R) : ℝ :=
  (∑ d, (∑ k, (∑ e, W₁ d e * W₂ e k) * dense v r c k b) * x d) + ∑ k, dense v r c k b * (∑ e, b₁ e * W₂ e k + b₂ k)

/-- A layer's output is the matrix product's plus the bias's. -/
theorem layer_eq (k : N) : layer x W₁ b₁ W₂ b₂ k = ∑ d, (∑ e, W₁ d e * W₂ e k) * x d + (∑ e, b₁ e * W₂ e k + b₂ k) := by
  unfold layer
  simp only [add_mul, Finset.sum_add_distrib, Finset.sum_mul]
  rw [Finset.sum_comm, add_assoc]
  refine congrArg (· + _) (Finset.sum_congr rfl fun d _ => Finset.sum_congr rfl fun e _ => ?_)
  ring

/-- Against the densified matrix a sum over columns is the sum over the stored entries of row `b`. -/
theorem sum_dense (g : N → ℝ) (b : R) : ∑ k, dense v r c k b * g k = ∑ j ∈ Finset.univ.filter (fun j => r j = b), v j * g (c j) := by
  unfold dense
  simp only [Finset.sum_mul]
  rw [Finset.sum_comm, Finset.sum_filter]
  refine Finset.sum_congr rfl fun j _ => ?_
  rw [Finset.sum_eq_single (c j) (fun k _ hk => by simp [ind, Ne.symm hk]) (fun h => absurd (Finset.mem_univ _) h)]
  by_cases h : r j = b <;> simp [ind, h]

/-- **The equation**: the folded affine map is the sparse product of the layers' output. -/
theorem folded_eq (b : R) : folded x W₁ b₁ W₂ b₂ v r c b
    = ∑ j ∈ Finset.univ.filter (fun j => r j = b), v j * layer x W₁ b₁ W₂ b₂ (c j) := by
  rw [← sum_dense]
  unfold folded
  simp only [layer_eq, mul_add, Finset.sum_add_distrib, Finset.sum_mul, Finset.mul_sum]
  rw [Finset.sum_comm]
  refine congrArg (· + _) (Finset.sum_congr rfl fun k _ => Finset.sum_congr rfl fun d _ => Finset.sum_congr rfl fun e _ => ?_)
  ring

end Sums

end Cert.Equation

end
-- ==== Proof.Value.Equation.lean ====
/-
  The equation over the extended reals: with real operands, the kernel's expression and the reference's are the two
  sides of the equation over the reals.
-/
module

public import proofs.«01_k».proof.Proof.Value.Reals

@[expose] public section

noncomputable section

namespace Cert.Equation

/-- A finite sum of real numbers is the same number among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

section Sides

variable {D E N R : Type} [Fintype D] [Fintype E] [Fintype N] [DecidableEq N] [DecidableEq R]
variable (x : D → ℝ) (W₁ : D → E → ℝ) (b₁ : E → ℝ) (W₂ : E → N → ℝ) (b₂ : N → ℝ) (v : N → ℝ) (r : N → R) (c : N → N)

/-- The densified sparse matrix, over the extended reals. -/
theorem coe_dense (k : N) (b : R) : ((dense v r c k b : ℝ) : EReal)
    = ∑ j, ((ind (c j = k) : ℝ) : EReal) * (v j : EReal) * ((ind (r j = b) : ℝ) : EReal) := by
  simp only [dense, coe_sum, EReal.coe_mul]

/-- The folded affine map, over the extended reals. -/
theorem coe_folded (b : R) : ((folded x W₁ b₁ W₂ b₂ v r c b : ℝ) : EReal)
    = (∑ d, (∑ k, (∑ e, (W₁ d e : EReal) * (W₂ e k : EReal)) * ((dense v r c k b : ℝ) : EReal)) * (x d : EReal))
      + ∑ k, ((dense v r c k b : ℝ) : EReal) * (∑ e, (b₁ e : EReal) * (W₂ e k : EReal) + (b₂ k : EReal)) := by
  simp only [folded, coe_sum, EReal.coe_mul, EReal.coe_add]

/-- The layers, over the extended reals. -/
theorem coe_layer (k : N) : ((layer x W₁ b₁ W₂ b₂ k : ℝ) : EReal)
    = ∑ e, (∑ d, (x d : EReal) * (W₁ d e : EReal) + (b₁ e : EReal)) * (W₂ e k : EReal) + (b₂ k : EReal) := by
  simp only [layer, coe_sum, EReal.coe_mul, EReal.coe_add]

/-- **The equation** over the extended reals: the folded affine map is the sparse product of the layers' output. -/
theorem coe_folded_eq (b : R) : ((folded x W₁ b₁ W₂ b₂ v r c b : ℝ) : EReal)
    = ∑ j ∈ Finset.univ.filter (fun j => r j = b), (v j : EReal) * ((layer x W₁ b₁ W₂ b₂ (c j) : ℝ) : EReal) := by
  simp only [folded_eq, coe_sum, EReal.coe_mul]

end Sides

end Cert.Equation
-- ==== Proof.Value.Precondition.lean ====
module

public import proofs.«01_k».proof.Defs
public import Idealize.ShloMosaic.Lib.Pointwise
@[expose] public section
noncomputable section
namespace Cert.Precondition
open Idealize.ShloMosaic

/-- The bound the precondition compares magnitudes with is plus infinity. -/
theorem bound_eq : Ideal.ofBits .f32 0x7F800000#32 = ⊤ := by
  simp [Ideal.ofBits, Ideal.ieee]

/-- A value whose magnitude is below plus infinity is a real number. -/
theorem real_of (x : EReal)
    (h : BitVec.ofBool (decide (max x (-x) < Ideal.ofBits .f32 0x7F800000#32)) = 1#1) :
    ∃ r : ℝ, x = r := by
  rw [bound_eq] at h
  induction x with
  | bot => simp at h
  | top => simp at h
  | coe r => exact ⟨r, rfl⟩

/-- A comparison whose bit is set holds. -/
theorem of_bit (p : Prop) [Decidable p] (h : BitVec.ofBool (decide p) = 1#1) : p := by
  by_contra hn
  rw [decide_eq_false hn] at h
  exact absurd h (by decide)

/-- A word that is at least zero, signed, is a number below two to the thirty-first. -/
theorem nonneg_of (w : BitVec 32) (h : IntOp.cmpi .sge w 0#32 = 1#1) : w.toNat < 2 ^ 31 := by
  have a : (0#32).toInt ≤ w.toInt := of_bit _ h
  simp only [BitVec.toInt_eq_toNat_cond, BitVec.toNat_ofNat] at a
  omega

/-- A word that is at least zero and less than thirty, signed, is a number below thirty. -/
theorem lt_of (w : BitVec 32) (h0 : IntOp.cmpi .sge w 0#32 = 1#1)
    (h1 : IntOp.cmpi .slt w 30#32 = 1#1) : w.toNat < 30 := by
  have a := nonneg_of w h0
  have b : w.toInt < (30#32).toInt := of_bit _ h1
  simp only [BitVec.toInt_eq_toNat_cond, BitVec.toNat_ofNat] at b
  omega

variable [Cert.Pre_finite_in_range.Facts]
open Cert.Pre_finite_in_range

/-- What the precondition says of the eight arguments: the float ones hold real numbers, the
row indices are not negative, the column indices are below thirty. -/
structure Fine (x : FVec Ideal S16384x128 .f32) (W1 : FVec Ideal S128x20 .f32)
    (b1 : FVec Ideal S20 .f32) (W2 : FVec Ideal S20x30 .f32) (b2 v : FVec Ideal S30 .f32)
    (rows cols : IVec S30 32) : Prop where
  x : ∀ i, ∃ r : ℝ, x i = (r : EReal)
  W1 : ∀ i, ∃ r : ℝ, W1 i = (r : EReal)
  b1 : ∀ i, ∃ r : ℝ, b1 i = (r : EReal)
  W2 : ∀ i, ∃ r : ℝ, W2 i = (r : EReal)
  b2 : ∀ i, ∃ r : ℝ, b2 i = (r : EReal)
  v : ∀ i, ∃ r : ℝ, v i = (r : EReal)
  rows : ∀ i, (rows i).toNat < 2 ^ 31
  cols : ∀ i, (cols i).toNat < 30

/-- The precondition's nine truths, read at every index, are the facts the proof needs. -/
theorem fine (m : (ℓ : Loc Cert.KernelIdeal.nD Cert.KernelIdeal.τ Cert.KernelIdeal.sig) → Buf (Elt Ideal) ℓ)
    (h : Cert.Pre_KernelIdeal_finite_in_range m) (c : Dev Cert.KernelIdeal.nD) :
    Fine (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) (m (c.tc.loc Cert.KernelIdeal.main_arg5))
      (m (c.tc.loc Cert.KernelIdeal.main_arg6)) (m (c.tc.loc Cert.KernelIdeal.main_arg7)) := by
  obtain ⟨h0, h1, h2, h3, h4, h5, h6, h7, h8⟩ := h c
  exact ⟨fun i => real_of _ (congrFun h0 i), fun i => real_of _ (congrFun h1 i),
    fun i => real_of _ (congrFun h2 i), fun i => real_of _ (congrFun h3 i),
    fun i => real_of _ (congrFun h4 i), fun i => real_of _ (congrFun h5 i),
    fun i => nonneg_of _ (congrFun h6 i),
    fun i => lt_of _ (congrFun h7 i) (congrFun h8 i)⟩

end Cert.Precondition
-- ==== Proof.Value.Result.lean ====
/-
  The kernel's result is the reference's: both read at one element, with the real operands the precondition gives.
-/
module

public import proofs.«01_k».proof.Proof.Value.Blocks
public import proofs.«01_k».proof.Proof.Value.Kernel
public import proofs.«01_k».proof.Proof.Value.Reference
public import proofs.«01_k».proof.Proof.Value.Equation
public import proofs.«01_k».proof.Proof.Value.Precondition

@[expose] public section

set_option maxRecDepth 16384

noncomputable section

namespace Cert.Value

open Cert.KernelIdeal Cert.KernelIdeal.Gen Cert.KernelIdeal.Hand Cert.Equation
open Idealize.ShloMosaic Idealize.ShloMosaic.TcCoe

/-- The kernel's comparison of an index word with a counter, as the indicator of the index being the counter. -/
theorem bit_eq (w : BitVec 32) (k : Fin 30) : bit (w = BitVec.ofNat 32 k.val) = ((ind (w.toNat = k.val) : ℝ) : EReal) := by
  have e : w = BitVec.ofNat 32 k.val ↔ w.toNat = k.val := by
    have hk := k.isLt
    have q : (BitVec.ofNat 32 k.val).toNat = k.val := by
      rw [BitVec.toNat_ofNat]; omega
    exact ⟨fun hw => (congrArg BitVec.toNat hw).trans q, fun hw => BitVec.eq_of_toNat_eq (Eq.trans hw q.symm)⟩
  unfold bit ind
  by_cases hk : w = BitVec.ofNat 32 k.val
  · rw [if_pos hk, if_pos (e.1 hk)]; rfl
  · rw [if_neg hk, if_neg (fun q => hk (e.2 q))]; rfl

/-- The indicator of an index below thirty being a counter, read among the numbers below thirty. -/
theorem ind_fin (a : ℕ) (h : a < 30) (k : Fin 30) : ind (a = k.val) = ind ((⟨a, h⟩ : Fin 30) = k) := by
  unfold ind
  exact if_congr (by rw [Fin.ext_iff]) rfl rfl

/-- The kernel's result before its last transposition, at output `b` and row `n`, over the arguments. -/
theorem kernel_apply (m : (ℓ : Loc nD τ sig) → Buf (Elt Ideal) ℓ) (c : Dev nD) (b : Fin 30) (n : Fin 16384)
    (x : FVec Ideal S16384x128 .f32) (W1 : FVec Ideal S128x20 .f32) (b1 : FVec Ideal S20 .f32)
    (W2 : FVec Ideal S20x30 .f32) (b2 v : FVec Ideal S30 .f32) (rows cols : IVec S30 32)
    (h0 : m (c.tc.loc main_arg0) = x) (h1 : m (c.tc.loc main_arg1) = W1) (h2 : m (c.tc.loc main_arg2) = b1)
    (h3 : m (c.tc.loc main_arg3) = W2) (h4 : m (c.tc.loc main_arg4) = b2) (h5 : m (c.tc.loc main_arg5) = v)
    (h6 : m (c.tc.loc main_arg6) = rows) (h7 : m (c.tc.loc main_arg7) = cols) :
    resB m c (ix2 b n)
      = (∑ d : Fin 128, (∑ k : Fin 30, (∑ e : Fin 20, W1 (ix2 d e) * W2 (ix2 e k))
          * (∑ j : Fin 30, bit (cols (ix1 j) = BitVec.ofNat 32 k.val) * v (ix1 j) * bit (rows (ix1 j) = BitVec.ofNat 32 b.val))) * x (ix2 n d))
        + ∑ k : Fin 30, (∑ j : Fin 30, bit (cols (ix1 j) = BitVec.ofNat 32 k.val) * v (ix1 j) * bit (rows (ix1 j) = BitVec.ofNat 32 b.val))
          * (∑ e : Fin 20, b1 (ix1 e) * W2 (ix2 e k) + b2 (ix1 k)) := by
  have hX : View.read (Elt Ideal) hbX.view (V m c main_arg0) = x := by
    rw [← h0]
    exact congrArg (View.read (Elt Ideal) hbX.view) (V_main_arg0 m c)
  have hR : resB m c (ix2 b n) = outV (wfV (iblk m c 0 t0_0) (iblk m c 2 t0_0) (iblk m c 4 t0_0) (iblk m c 5 t0_0) (iblk m c 6 t0_0))
      (bvV (iblk m c 1 t0_0) (iblk m c 2 t0_0) (iblk m c 3 t0_0) (iblk m c 4 t0_0) (iblk m c 5 t0_0) (iblk m c 6 t0_0)) x (ix2 b n) := by
    rw [← hX]
    exact congrFun (Memref.IsWhole.read_unread (Val := Elt Ideal) (Memref.isWhole_whole main_call0_v5) _) (ix2 b n)
  rw [hR, outV_apply, bvV_apply]
  simp only [wfV_apply, dense_apply, iblk_0, iblk_1, iblk_2, iblk_3, iblk_4, iblk_5, iblk_6, h1, h2, h3, h4, h5, h6, h7]

/-- **The two results at one element**: with real floats, no negative row index and column indices in range, the kernel's expression is the
reference's. -/
theorem sides_eq {x : FVec Ideal S16384x128 .f32} {W1 : FVec Ideal S128x20 .f32} {b1 : FVec Ideal S20 .f32}
    {W2 : FVec Ideal S20x30 .f32} {b2 v : FVec Ideal S30 .f32} {rows cols : IVec S30 32}
    (h : Precondition.Fine x W1 b1 W2 b2 v rows cols) (b : Fin 30) (n : Fin 16384) :
    (∑ d : Fin 128, (∑ k : Fin 30, (∑ e : Fin 20, W1 (ix2 d e) * W2 (ix2 e k))
          * (∑ j : Fin 30, bit (cols (ix1 j) = BitVec.ofNat 32 k.val) * v (ix1 j) * bit (rows (ix1 j) = BitVec.ofNat 32 b.val))) * x (ix2 n d))
        + ∑ k : Fin 30, (∑ j : Fin 30, bit (cols (ix1 j) = BitVec.ofNat 32 k.val) * v (ix1 j) * bit (rows (ix1 j) = BitVec.ofNat 32 b.val))
          * (∑ e : Fin 20, b1 (ix1 e) * W2 (ix2 e k) + b2 (ix1 k))
      = ReferenceIdeal.Hand.summed (ReferenceIdeal.Hand.scaled (ReferenceIdeal.Hand.layers x W1 b1 W2 b2) v cols) rows (ix2 n b) := by
  obtain ⟨hx, hW1, hb1, hW2, hb2, hv, hr, hc⟩ := h
  choose xr hx using hx
  choose W1r hW1 using hW1
  choose b1r hb1 using hb1
  choose W2r hW2 using hW2
  choose b2r hb2 using hb2
  choose vr hv using hv
  have bc (j k : Fin 30) := (bit_eq (cols (ix1 j)) k).trans (congrArg Real.toEReal (ind_fin _ (hc _) k))
  have e := coe_folded_eq (fun d => xr (ix2 n d)) (fun d e => W1r (ix2 d e)) (fun e => b1r (ix1 e))
    (fun e k => W2r (ix2 e k)) (fun k => b2r (ix1 k)) (fun j => vr (ix1 j))
    (fun j => (rows (ix1 j)).toNat) (fun j => (⟨(cols (ix1 j)).toNat, hc _⟩ : Fin 30)) b.val
  rw [ReferenceIdeal.Hand.summed_apply _ _ b n (fun j => hr _)]
  simp only [coe_folded, coe_dense, coe_layer] at e
  simp only [hx, hW1, hb1, hW2, hb2, hv, bc, bit_eq (rows _)]
  refine e.trans (Finset.sum_congr rfl fun j _ => ?_)
  rw [ReferenceIdeal.Hand.scaled_apply _ _ _ j n (hc _), ReferenceIdeal.Hand.layers_apply, hv, hb2]
  simp only [hx, hW1, hb1, hW2]

/-- **The results agree**: from a launch state satisfying the precondition, the kernel's result array is the
reference's function of the arguments. -/
theorem result_eq [Cert.Pre_finite_in_range.Facts] (m : (ℓ : Loc nD τ sig) → Buf (Elt Ideal) ℓ) (h : Cert.Pre_KernelIdeal_finite_in_range m) (c : Dev nD) :
    (transpose S16384x30 [1, 0] (resB m c) transposes_S30x16384_S16384x30_1_0 : FVec Ideal S16384x30 .f32)
      = ReferenceIdeal.Hand.summed (ReferenceIdeal.Hand.scaled (ReferenceIdeal.Hand.layers (m (c.tc.loc main_arg0)) (m (c.tc.loc main_arg1))
          (m (c.tc.loc main_arg2)) (m (c.tc.loc main_arg3)) (m (c.tc.loc main_arg4))) (m (c.tc.loc main_arg5)) (m (c.tc.loc main_arg7)))
        (m (c.tc.loc main_arg6)) := by
  refine funext fun i => ?_
  obtain ⟨n, b, rfl⟩ : ∃ (n : Fin 16384) (b : Fin 30), i = ix2 n b := ⟨i 0, i 1, eq_ix2 i⟩
  refine Eq.trans ?_ (sides_eq (Precondition.fine m h c) b n)
  refine Eq.trans ?_ (kernel_apply m c b n _ _ _ _ _ _ _ _ rfl rfl rfl rfl rfl rfl rfl rfl)
  pointwise

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run leaves the arguments alone, and it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The shape relations the precondition's operations state. -/
theorem facts_pre : Cert.Pre_finite_in_range.Facts :=
  ⟨by decide, by decide, by decide, by decide, by decide⟩

/-- **The value claim**: from launch states satisfying the precondition whose arguments agree, the kernel and the
reference both end with the same result and their arguments unchanged. -/
theorem algebraic : Cert.algebraic_KernelIdeal_ReferenceIdeal_pre_finite_in_range (hKernelIdeal := Cert.KernelIdeal.Gen.facts)
    (hReferenceIdeal := Cert.ReferenceIdeal.Gen.facts) (hPre_finite_in_range := facts_pre) := fun m g m' g' hp ha => by
  refine ⟨_, (θ_run _ _ _).mono (fun r h => h.1) (Cert.KernelIdeal.Hand.run_full m g),
    (θ_run _ _ _).mono (fun r h c => ⟨(h c).1.trans ?_, (h c).2⟩) (Cert.ReferenceIdeal.Value.run m' g')⟩
  obtain ⟨h0, h1, h2, h3, h4, h5, h6, h7⟩ := ha c
  rw [h0, h1, h2, h3, h4, h5, h6, h7]
  exact (@Cert.Value.result_eq facts_pre m hp c).symm

/-- Every claim of the certificate: the frames hold from every launch state, so also from those of the precondition. -/
theorem claim : Cert.Claim := ⟨Cert.Kernel.Gen.facts, Cert.KernelIdeal.Gen.facts, Cert.ReferenceIdeal.Gen.facts, facts_pre,
  fun m g _ => Cert.Kernel.Hand.frame m g, fun m g _ => Cert.KernelIdeal.Hand.frame m g, fun m g _ => Cert.KernelIdeal.Hand.frame m g,
  frame_reference, fun m g _ => frame_reference m g trivial, trivial, algebraic⟩

end Cert.Proof

end
